-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.BufferStatement Cert.KernelIdeal.S7680x2x128 Cert.KernelIdeal.S7680x1x128
  ∧ IdealRules.bf16_pair.Statement Cert.KernelIdeal.S1024x128 Cert.KernelIdeal.S512x128
  ∧ IdealRules.bf16_pair.Statement Cert.KernelIdeal.S512x2x128 Cert.KernelIdeal.S512x1x128
  ∧ IdealRules.bf16_pair.Statement Cert.KernelIdeal.S128x2x128 Cert.KernelIdeal.S128x1x128
  ∧ IdealRules.bf16_pair.Statement Cert.KernelIdeal.S256x128 Cert.KernelIdeal.S128x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x3840 : Shape := ⟨3, ![128, 1, 3840]⟩
abbrev S28288x1920 : Shape := ⟨2, ![28288, 1920]⟩
abbrev S28288x120 : Shape := ⟨2, ![28288, 120]⟩
abbrev S128x3840 : Shape := ⟨2, ![128, 3840]⟩
abbrev S128x28288 : Shape := ⟨2, ![128, 28288]⟩
abbrev S512x1920 : Shape := ⟨2, ![512, 1920]⟩
abbrev S512x120 : Shape := ⟨2, ![512, 120]⟩
abbrev S128x512 : Shape := ⟨2, ![128, 512]⟩
abbrev S7680x128 : Shape := ⟨2, ![7680, 128]⟩
abbrev S60x2x8x128 : Shape := ⟨4, ![60, 2, 8, 128]⟩
abbrev S128x120 : Shape := ⟨2, ![128, 120]⟩
abbrev S120x128 : Shape := ⟨2, ![120, 128]⟩
abbrev S480x128 : Shape := ⟨2, ![480, 128]⟩
abbrev S60x8x128 : Shape := ⟨3, ![60, 8, 128]⟩
abbrev S60x1x8x128 : Shape := ⟨4, ![60, 1, 8, 128]⟩
abbrev S512x128 : Shape := ⟨2, ![512, 128]⟩
abbrev S128x128 : Shape := ⟨2, ![128, 128]⟩
abbrev S512x1x128 : Shape := ⟨3, ![512, 1, 128]⟩
abbrev S512x2x128 : Shape := ⟨3, ![512, 2, 128]⟩
abbrev S1024x128 : Shape := ⟨2, ![1024, 128]⟩
abbrev S4x2x8x16x128 : Shape := ⟨5, ![4, 2, 8, 16, 128]⟩
abbrev S4x2x8x128 : Shape := ⟨4, ![4, 2, 8, 128]⟩
abbrev S64x128 : Shape := ⟨2, ![64, 128]⟩
abbrev S4x2x1x16x128 : Shape := ⟨5, ![4, 2, 1, 16, 128]⟩
abbrev S128x256 : Shape := ⟨2, ![128, 256]⟩
abbrev S256x128 : Shape := ⟨2, ![256, 128]⟩
abbrev S256x512 : Shape := ⟨2, ![256, 512]⟩
abbrev S128x128x1 : Shape := ⟨3, ![128, 128, 1]⟩

abbrev nBuf : Space → Nat
  | .hbm => 5
  | .vmem => 10
  | .smem => 0
  | _ => 0

abbrev bufTy : (tb : Table) → Fin (tcTables nBuf tb) → BufTy
  | .hbm, ⟨0, _⟩ => ⟨S128x1x3840, .bf16⟩
  | .hbm, ⟨1, _⟩ => ⟨S28288x1920, .i8⟩
  | .hbm, ⟨2, _⟩ => ⟨S28288x120, .i8⟩
  | .hbm, ⟨3, _⟩ => ⟨S128x3840, .bf16⟩
  | .hbm, ⟨4, _⟩ => ⟨S128x28288, .bf16⟩
  | .local _ .vmem, ⟨0, _⟩ => ⟨S128x3840, .bf16⟩
  | .local _ .vmem, ⟨1, _⟩ => ⟨S512x1920, .i8⟩
  | .local _ .vmem, ⟨2, _⟩ => ⟨S512x1920, .i8⟩
  | .local _ .vmem, ⟨3, _⟩ => ⟨S512x120, .i8⟩
  | .local _ .vmem, ⟨4, _⟩ => ⟨S512x120, .i8⟩
  | .local _ .vmem, ⟨5, _⟩ => ⟨S128x512, .bf16⟩
  | .local _ .vmem, ⟨6, _⟩ => ⟨S128x512, .bf16⟩
  | .local _ .vmem, ⟨7, _⟩ => ⟨S7680x128, .i32⟩
  | .local _ .vmem, ⟨8, _⟩ => ⟨S7680x128, .i32⟩
  | .local _ .vmem, ⟨9, _⟩ => ⟨S60x2x8x128, .i32⟩
  | _, _ => ⟨S128x1x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [BitOps F]

abbrev grid0 : Pipeline.Grid := ⟨1, ![57], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c56_i32 : BitVec 32 := 56#32
  let v4 : BitVec 1 := Scalar.cmpi .slt arg0 c56_i32
  let v5 : BitVec 1 := Scalar.andi v3 v4
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c1_i32_6 : BitVec 32 := 1#32
  let v16 : BitVec 1 := Scalar.cmpi .eq v15 c1_i32_6
  let v17 : BitVec 1 := Scalar.andi v5 v16
  let v18 : BitVec 32 := Scalar.extui v17
  let c0_i32_7 : BitVec 32 := 0#32
  let v19 : BitVec 1 := Scalar.cmpi .ne v18 c0_i32_7
  v19

def k0_cond3 (i : grid0.Coords) : BitVec 1 :=
  let arg0 : BitVec 32 := BitVec.ofNat 32 (i 0).val
  let c0_i32_1 : BitVec 32 := 0#32
  let v3 : BitVec 1 := Scalar.cmpi .sgt arg0 c0_i32_1
  let c56_i32 : BitVec 32 := 56#32
  let v4 : BitVec 1 := Scalar.cmpi .slt arg0 c56_i32
  let v5 : BitVec 1 := Scalar.andi v3 v4
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi arg0 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let c0_i32_14 : BitVec 32 := 0#32
  let v30 : BitVec 1 := Scalar.cmpi .eq v29 c0_i32_14
  let v31 : BitVec 1 := Scalar.andi v5 v30
  let v32 : BitVec 32 := Scalar.extui v31
  let c0_i32_15 : BitVec 32 := 0#32
  let v33 : BitVec 1 := Scalar.cmpi .ne v32 c0_i32_15
  v33

def k0_cond4 (i : grid0.Coords) : BitVec 1 :=
  let arg0 : BitVec 32 := BitVec.ofNat 32 (i 0).val
  let c56_i32_16 : BitVec 32 := 56#32
  let v34 : BitVec 1 := Scalar.cmpi .eq arg0 c56_i32_16
  let v35 : BitVec 32 := Scalar.extui v34
  let c0_i32_17 : BitVec 32 := 0#32
  let v36 : BitVec 1 := Scalar.cmpi .ne v35 c0_i32_17
  v36

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c55_i32 : BitVec 32 := 55#32
  let v0 : BitVec 32 := Scalar.minsi arg0 c55_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c55_i32 : BitVec 32 := 55#32
  let v0 : BitVec 32 := Scalar.minsi arg0 c55_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 1 → Memref sig .tc .vmem S128x3840 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1920 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x120 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
abbrev S7680x2x128 : Shape := ⟨3, ![7680, 2, 128]⟩
abbrev S7680x1x128 : Shape := ⟨3, ![7680, 1, 128]⟩
abbrev S128x2x128 : Shape := ⟨3, ![128, 2, 128]⟩
abbrev S128x1x128 : Shape := ⟨3, ![128, 1, 128]⟩
  | .local _ .vmem, ⟨7, _⟩ => ⟨S7680x2x128, .bf16⟩
  | .local _ .vmem, ⟨8, _⟩ => ⟨S7680x2x128, .bf16⟩
variable {F : FTy → Type} [FloatOps F]
-- ==== ReferenceIdeal.lean ====
abbrev S128x1x3840 : Shape := ⟨3, ![128, 1, 3840]⟩
abbrev S28288x1920 : Shape := ⟨2, ![28288, 1920]⟩
abbrev S28288x120 : Shape := ⟨2, ![28288, 120]⟩
abbrev S_ : Shape := ⟨0, ![]⟩
abbrev S28288x120x16 : Shape := ⟨3, ![28288, 120, 16]⟩
abbrev S28288x1x1920 : Shape := ⟨3, ![28288, 1, 1920]⟩
abbrev S28288x2x1920 : Shape := ⟨3, ![28288, 2, 1920]⟩
abbrev S128x1920x2 : Shape := ⟨3, ![128, 1920, 2]⟩
abbrev S128x2x1920 : Shape := ⟨3, ![128, 2, 1920]⟩
abbrev S128x28288 : Shape := ⟨2, ![128, 28288]⟩

abbrev nBuf : Space → Nat
  | .hbm => 87
  | .vmem => 0
  | .smem => 0
  | _ => 0

abbrev bufTy : (tb : Table) → Fin (tcTables nBuf tb) → BufTy
  | .hbm, ⟨0, _⟩ => ⟨S128x1x3840, .bf16⟩
  | .hbm, ⟨1, _⟩ => ⟨S28288x1920, .i8⟩
  | .hbm, ⟨2, _⟩ => ⟨S28288x120, .i8⟩
  | .hbm, ⟨3, _⟩ => ⟨S28288x120, .i32⟩
  | .hbm, ⟨4, _⟩ => ⟨S_, .i32⟩
  | .hbm, ⟨5, _⟩ => ⟨S28288x120, .i32⟩
  | .hbm, ⟨6, _⟩ => ⟨S28288x120, .i32⟩
  | .hbm, ⟨7, _⟩ => ⟨S_, .i32⟩
  | .hbm, ⟨8, _⟩ => ⟨S28288x120, .i32⟩
  | .hbm, ⟨9, _⟩ => ⟨S28288x120, .i1⟩
  | .hbm, ⟨10, _⟩ => ⟨S28288x120, .f32⟩
  | .hbm, ⟨11, _⟩ => ⟨S_, .f32⟩
  | .hbm, ⟨12, _⟩ => ⟨S28288x120, .f32⟩
  | .hbm, ⟨13, _⟩ => ⟨S28288x120, .f32⟩
  | .hbm, ⟨14, _⟩ => ⟨S_, .f32⟩
  | .hbm, ⟨15, _⟩ => ⟨S_, .f32⟩
  | .hbm, ⟨16, _⟩ => ⟨S28288x120, .f32⟩
  | .hbm, ⟨17, _⟩ => ⟨S28288x120, .f32⟩
  | .hbm, ⟨18, _⟩ => ⟨S28288x120, .bf16⟩
  | .hbm, ⟨19, _⟩ => ⟨S28288x120x16, .bf16⟩
  | .hbm, ⟨20, _⟩ => ⟨S28288x1920, .bf16⟩
  | .hbm, ⟨21, _⟩ => ⟨S28288x1920, .i32⟩
  | .hbm, ⟨22, _⟩ => ⟨S_, .i32⟩
  | .hbm, ⟨23, _⟩ => ⟨S28288x1920, .i32⟩
  | .hbm, ⟨24, _⟩ => ⟨S28288x1920, .i32⟩
  | .hbm, ⟨25, _⟩ => ⟨S_, .i32⟩
  | .hbm, ⟨26, _⟩ => ⟨S28288x1920, .i32⟩
  | .hbm, ⟨27, _⟩ => ⟨S28288x1920, .i32⟩
  | .hbm, ⟨28, _⟩ => ⟨S28288x1x1920, .i32⟩
  | .hbm, ⟨29, _⟩ => ⟨S28288x1x1920, .i32⟩
  | .hbm, ⟨30, _⟩ => ⟨S28288x2x1920, .i32⟩
  | .hbm, ⟨31, _⟩ => ⟨S_, .i32⟩
  | .hbm, ⟨32, _⟩ => ⟨S28288x2x1920, .i32⟩
  | .hbm, ⟨33, _⟩ => ⟨S28288x2x1920, .i32⟩
  | .hbm, ⟨34, _⟩ => ⟨S_, .i32⟩
  | .hbm, ⟨35, _⟩ => ⟨S28288x2x1920, .i32⟩
  | .hbm, ⟨36, _⟩ => ⟨S28288x2x1920, .i1⟩
  | .hbm, ⟨37, _⟩ => ⟨S_, .i32⟩
  | .hbm, ⟨38, _⟩ => ⟨S28288x2x1920, .i32⟩
  | .hbm, ⟨39, _⟩ => ⟨S28288x2x1920, .i32⟩
  | .hbm, ⟨40, _⟩ => ⟨S_, .i32⟩
  | .hbm, ⟨41, _⟩ => ⟨S28288x2x1920, .i32⟩
  | .hbm, ⟨42, _⟩ => ⟨S28288x2x1920, .i1⟩
  | .hbm, ⟨43, _⟩ => ⟨S_, .i32⟩
  | .hbm, ⟨44, _⟩ => ⟨S28288x2x1920, .i32⟩
  | .hbm, ⟨45, _⟩ => ⟨S28288x2x1920, .i32⟩
  | .hbm, ⟨46, _⟩ => ⟨S_, .i32⟩
  | .hbm, ⟨47, _⟩ => ⟨S28288x2x1920, .i32⟩
  | .hbm, ⟨48, _⟩ => ⟨S28288x2x1920, .i1⟩
  | .hbm, ⟨49, _⟩ => ⟨S_, .i32⟩
  | .hbm, ⟨50, _⟩ => ⟨S28288x2x1920, .i32⟩
  | .hbm, ⟨51, _⟩ => ⟨S28288x2x1920, .i32⟩
  | .hbm, ⟨52, _⟩ => ⟨S_, .i32⟩
  | .hbm, ⟨53, _⟩ => ⟨S28288x2x1920, .i32⟩
  | .hbm, ⟨54, _⟩ => ⟨S28288x2x1920, .i1⟩
  | .hbm, ⟨55, _⟩ => ⟨S_, .bf16⟩
  | .hbm, ⟨56, _⟩ => ⟨S_, .bf16⟩
  | .hbm, ⟨57, _⟩ => ⟨S28288x2x1920, .bf16⟩
  | .hbm, ⟨58, _⟩ => ⟨S28288x2x1920, .bf16⟩
  | .hbm, ⟨59, _⟩ => ⟨S28288x2x1920, .bf16⟩
  | .hbm, ⟨60, _⟩ => ⟨S_, .bf16⟩
  | .hbm, ⟨61, _⟩ => ⟨S_, .bf16⟩
  | .hbm, ⟨62, _⟩ => ⟨S28288x2x1920, .bf16⟩
  | .hbm, ⟨63, _⟩ => ⟨S28288x2x1920, .bf16⟩
  | .hbm, ⟨64, _⟩ => ⟨S28288x2x1920, .bf16⟩
  | .hbm, ⟨65, _⟩ => ⟨S28288x2x1920, .bf16⟩
  | .hbm, ⟨66, _⟩ => ⟨S_, .bf16⟩
  | .hbm, ⟨67, _⟩ => ⟨S_, .bf16⟩
  | .hbm, ⟨68, _⟩ => ⟨S28288x2x1920, .bf16⟩
  | .hbm, ⟨69, _⟩ => ⟨S28288x2x1920, .bf16⟩
  | .hbm, ⟨70, _⟩ => ⟨S28288x2x1920, .bf16⟩
  | .hbm, ⟨71, _⟩ => ⟨S_, .bf16⟩
  | .hbm, ⟨72, _⟩ => ⟨S_, .bf16⟩
  | .hbm, ⟨73, _⟩ => ⟨S28288x2x1920, .bf16⟩
  | .hbm, ⟨74, _⟩ => ⟨S28288x2x1920, .bf16⟩
  | .hbm, ⟨75, _⟩ => ⟨S28288x2x1920, .bf16⟩
  | .hbm, ⟨76, _⟩ => ⟨S28288x2x1920, .bf16⟩
  | .hbm, ⟨77, _⟩ => ⟨S28288x2x1920, .bf16⟩
  | .hbm, ⟨78, _⟩ => ⟨S28288x2x1920, .bf16⟩
  | .hbm, ⟨79, _⟩ => ⟨S28288x2x1920, .bf16⟩
  | .hbm, ⟨80, _⟩ => ⟨S28288x1x1920, .bf16⟩
  | .hbm, ⟨81, _⟩ => ⟨S28288x2x1920, .bf16⟩
  | .hbm, ⟨82, _⟩ => ⟨S28288x2x1920, .bf16⟩
  | .hbm, ⟨83, _⟩ => ⟨S128x1920x2, .bf16⟩
  | .hbm, ⟨84, _⟩ => ⟨S128x2x1920, .bf16⟩
  | .hbm, ⟨85, _⟩ => ⟨S128x28288, .f32⟩
  | .hbm, ⟨86, _⟩ => ⟨S128x28288, .bf16⟩
  | _, _ => ⟨S128x1x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_c_6 : Ref sig .tc := ⟨.hbm, 37, rfl⟩
abbrev main_v24 : Ref sig .tc := ⟨.hbm, 38, rfl⟩
abbrev main_v25 : Ref sig .tc := ⟨.hbm, 39, rfl⟩
abbrev main_c_7 : Ref sig .tc := ⟨.hbm, 40, rfl⟩
abbrev main_v26 : Ref sig .tc := ⟨.hbm, 41, rfl⟩
abbrev main_v27 : Ref sig .tc := ⟨.hbm, 42, rfl⟩
abbrev main_c_8 : Ref sig .tc := ⟨.hbm, 43, rfl⟩
abbrev main_v28 : Ref sig .tc := ⟨.hbm, 44, rfl⟩
abbrev main_v29 : Ref sig .tc := ⟨.hbm, 45, rfl⟩
abbrev main_c_9 : Ref sig .tc := ⟨.hbm, 46, rfl⟩
abbrev main_v30 : Ref sig .tc := ⟨.hbm, 47, rfl⟩
abbrev main_v31 : Ref sig .tc := ⟨.hbm, 48, rfl⟩
abbrev main_c_10 : Ref sig .tc := ⟨.hbm, 49, rfl⟩
abbrev main_v32 : Ref sig .tc := ⟨.hbm, 50, rfl⟩
abbrev main_v33 : Ref sig .tc := ⟨.hbm, 51, rfl⟩
abbrev main_c_11 : Ref sig .tc := ⟨.hbm, 52, rfl⟩
abbrev main_v34 : Ref sig .tc := ⟨.hbm, 53, rfl⟩
abbrev main_v35 : Ref sig .tc := ⟨.hbm, 54, rfl⟩
abbrev main_cst_12 : Ref sig .tc := ⟨.hbm, 55, rfl⟩
abbrev main_cst_13 : Ref sig .tc := ⟨.hbm, 56, rfl⟩
abbrev main_call1_v0 : Ref sig .tc := ⟨.hbm, 57, rfl⟩
abbrev main_call1_v1 : Ref sig .tc := ⟨.hbm, 58, rfl⟩
abbrev main_v36 : Ref sig .tc := ⟨.hbm, 59, rfl⟩
abbrev main_cst_14 : Ref sig .tc := ⟨.hbm, 60, rfl⟩
abbrev main_cst_15 : Ref sig .tc := ⟨.hbm, 61, rfl⟩
abbrev main_call2_v0 : Ref sig .tc := ⟨.hbm, 62, rfl⟩
abbrev main_call2_v1 : Ref sig .tc := ⟨.hbm, 63, rfl⟩
abbrev main_v37 : Ref sig .tc := ⟨.hbm, 64, rfl⟩
abbrev main_v38 : Ref sig .tc := ⟨.hbm, 65, rfl⟩
abbrev main_cst_16 : Ref sig .tc := ⟨.hbm, 66, rfl⟩
abbrev main_cst_17 : Ref sig .tc := ⟨.hbm, 67, rfl⟩
abbrev main_call4_v0 : Ref sig .tc := ⟨.hbm, 68, rfl⟩
abbrev main_call4_v1 : Ref sig .tc := ⟨.hbm, 69, rfl⟩
abbrev main_v39 : Ref sig .tc := ⟨.hbm, 70, rfl⟩
abbrev main_cst_18 : Ref sig .tc := ⟨.hbm, 71, rfl⟩
abbrev main_cst_19 : Ref sig .tc := ⟨.hbm, 72, rfl⟩
abbrev main_call5_v0 : Ref sig .tc := ⟨.hbm, 73, rfl⟩
abbrev main_call5_v1 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩

abbrev nD : Nat := 1
abbrev τ : Topo := Topo.v7x

variable {F : FTy → Type} [FloatOps F]
-- ==== Proof.KernelFrame.lean ====
/-
  The body of `Kernel`, at any float values: along each of its four courses it terminates, keeps its three inputs and keeps every
  buffer it writes. Nothing here says what it writes.
-/
module

public import proofs.«01_k».proof.Proof.Gen.Kernel.Frame
public import proofs.«01_k».proof.Proof.Gen.Kernel.Skeleton
public import Idealize.ShloMosaic.Lib.Pipeline.Frame
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F] [∀ e, Nonempty (Elt F e)]

local notation "𝕄" => MT nD τ sig Unit (Elt F) ℕ (UR sig nD τ) ℕ

abbrev w0M : Memref sig .tc .vmem S7680x128 .i32 := Memref.whole cc0_scratch0
abbrev w1M : Memref sig .tc .vmem S7680x128 .i32 := Memref.whole cc0_scratch1
abbrev scM : Memref sig .tc .vmem S60x2x8x128 .i32 := Memref.whole cc0_scratch2

/-- A memref's buffer held whole at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The condition of the body's first branch: the grid point is the first. -/
abbrev cond1 (i : grid0.Coords) : BitVec 1 :=
  Scalar.cmpi .ne (Scalar.extui (Scalar.cmpi .eq (BitVec.ofNat 32 (i 0).val) 0#32) : BitVec 32) 0#32

set_option maxHeartbeats 2000000 in
/-- The first point: the weights' block decoded into the first scratch, nothing multiplied. -/
theorem runFirst (c : Dev nD) (i : grid0.Coords) (h1 : cond1 i = 1#1) (h2 : ¬ k0_cond2 i = 1#1) (h3 : ¬ k0_cond3 i = 1#1) (h4 : ¬ k0_cond4 i = 1#1)
    (a1 : Memref sig .tc .vmem S128x3840 .bf16) (ha1 : a1.IsWhole)
    (a2 : Memref sig .tc .vmem S512x1920 .i8) (ha2 : a2.IsWhole)
    (a3 : Memref sig .tc .vmem S512x120 .i8) (ha3 : a3.IsWhole)
    (a4 : Memref sig .tc .vmem S128x512 .bf16) (ha4 : a4.IsWhole)
    (f1 : Buf (Elt F) (a1.view.loc (c : Thread nD τ))) (f2 : Buf (Elt F) (a2.view.loc (c : Thread nD τ)))
    (f3 : Buf (Elt F) (a3.view.loc (c : Thread nD τ))) (f4 : Buf (Elt F) (a4.view.loc (c : Thread nD τ)))
    (g0 : Buf (Elt F) (w0M.view.loc (c : Thread nD τ))) (g1 : Buf (Elt F) (w1M.view.loc (c : Thread nD τ)))
    (gs : Buf (Elt F) (scM.view.loc (c : Thread nD τ))) (K : PUnit → sProp 𝕄) :
    iprop(pt c a1 f1 ∗ pt c a2 f2 ∗ pt c a3 f3 ∗ pt c a4 f4 ∗ pt c w0M g0 ∗ pt c w1M g1 ∗ pt c scM gs
        ∗ (iprop(pt c a1 f1 ∗ pt c a2 f2 ∗ pt c a3 f3 ∗ pt c a4 f4 ∗ (∃ g, pt c w0M g) ∗ (∃ g, pt c w1M g) ∗ (∃ g, pt c scM g)) -∗ K ⟨⟩))
      ⊢ wp frame (wpE (defs₀ (F := F)) Variants.none c none) Set.univ
          (cc0_mxfp4_linear i a1 ha1 a2 ha2 a3 ha3 a4 ha4 w0M (Memref.isWhole_whole _) w1M (Memref.isWhole_whole _) scM (Memref.isWhole_whole _)) K := by
  simp only [cc0_mxfp4_linear_eq_skeleton]; unfold cc0_mxfp4_linear_skel
  iintro ⟨H1, H2, H3, H4, G0, G1, GS, Hk⟩
  sl_exec_parts
  sl_step
  iapply Hk
  isplitl [H1]; · iexact H1
  isplitl [H2]; · iexact H2
  isplitl [H3]; · iexact H3
  isplitl [H4]; · iexact H4
  isplitl [G0]; · iexists _; iexact G0
  isplitl [G1]; · iexists _; iexact G1
  iexists _; iexact GS

set_option maxHeartbeats 2000000 in
/-- An odd point inside: a block decoded into the second scratch, the first one multiplied into the output. -/
theorem runOdd (c : Dev nD) (i : grid0.Coords) (h1 : ¬ cond1 i = 1#1) (h2 : k0_cond2 i = 1#1) (h3 : ¬ k0_cond3 i = 1#1) (h4 : ¬ k0_cond4 i = 1#1)
    (a1 : Memref sig .tc .vmem S128x3840 .bf16) (ha1 : a1.IsWhole)
    (a2 : Memref sig .tc .vmem S512x1920 .i8) (ha2 : a2.IsWhole)
    (a3 : Memref sig .tc .vmem S512x120 .i8) (ha3 : a3.IsWhole)
    (a4 : Memref sig .tc .vmem S128x512 .bf16) (ha4 : a4.IsWhole)
    (f1 : Buf (Elt F) (a1.view.loc (c : Thread nD τ))) (f2 : Buf (Elt F) (a2.view.loc (c : Thread nD τ)))
    (f3 : Buf (Elt F) (a3.view.loc (c : Thread nD τ))) (f4 : Buf (Elt F) (a4.view.loc (c : Thread nD τ)))
    (g0 : Buf (Elt F) (w0M.view.loc (c : Thread nD τ))) (g1 : Buf (Elt F) (w1M.view.loc (c : Thread nD τ)))
    (gs : Buf (Elt F) (scM.view.loc (c : Thread nD τ))) (K : PUnit → sProp 𝕄) :
    iprop(pt c a1 f1 ∗ pt c a2 f2 ∗ pt c a3 f3 ∗ pt c a4 f4 ∗ pt c w0M g0 ∗ pt c w1M g1 ∗ pt c scM gs
        ∗ (iprop(pt c a1 f1 ∗ pt c a2 f2 ∗ pt c a3 f3 ∗ (∃ f, pt c a4 f) ∗ (∃ g, pt c w0M g) ∗ (∃ g, pt c w1M g) ∗ (∃ g, pt c scM g)) -∗ K ⟨⟩))
      ⊢ wp frame (wpE (defs₀ (F := F)) Variants.none c none) Set.univ
          (cc0_mxfp4_linear i a1 ha1 a2 ha2 a3 ha3 a4 ha4 w0M (Memref.isWhole_whole _) w1M (Memref.isWhole_whole _) scM (Memref.isWhole_whole _)) K := by
  simp only [cc0_mxfp4_linear_eq_skeleton]; unfold cc0_mxfp4_linear_skel
  iintro ⟨H1, H2, H3, H4, G0, G1, GS, Hk⟩
  sl_exec_parts
  sl_step
  iapply Hk
  isplitl [H1]; · iexact H1
  isplitl [H2]; · iexact H2
  isplitl [H3]; · iexact H3
  isplitl [H4]; · iexists _; iexact H4
  isplitl [G0]; · iexists _; iexact G0
  isplitl [G1]; · iexists _; iexact G1
  iexists _; iexact GS

set_option maxHeartbeats 2000000 in
/-- An even point inside: a block decoded into the first scratch, the second one multiplied into the output. -/
theorem runEven (c : Dev nD) (i : grid0.Coords) (h1 : ¬ cond1 i = 1#1) (h2 : ¬ k0_cond2 i = 1#1) (h3 : k0_cond3 i = 1#1) (h4 : ¬ k0_cond4 i = 1#1)
    (a1 : Memref sig .tc .vmem S128x3840 .bf16) (ha1 : a1.IsWhole)
    (a2 : Memref sig .tc .vmem S512x1920 .i8) (ha2 : a2.IsWhole)
    (a3 : Memref sig .tc .vmem S512x120 .i8) (ha3 : a3.IsWhole)
    (a4 : Memref sig .tc .vmem S128x512 .bf16) (ha4 : a4.IsWhole)
    (f1 : Buf (Elt F) (a1.view.loc (c : Thread nD τ))) (f2 : Buf (Elt F) (a2.view.loc (c : Thread nD τ)))
    (f3 : Buf (Elt F) (a3.view.loc (c : Thread nD τ))) (f4 : Buf (Elt F) (a4.view.loc (c : Thread nD τ)))
    (g0 : Buf (Elt F) (w0M.view.loc (c : Thread nD τ))) (g1 : Buf (Elt F) (w1M.view.loc (c : Thread nD τ)))
    (gs : Buf (Elt F) (scM.view.loc (c : Thread nD τ))) (K : PUnit → sProp 𝕄) :
    iprop(pt c a1 f1 ∗ pt c a2 f2 ∗ pt c a3 f3 ∗ pt c a4 f4 ∗ pt c w0M g0 ∗ pt c w1M g1 ∗ pt c scM gs
        ∗ (iprop(pt c a1 f1 ∗ pt c a2 f2 ∗ pt c a3 f3 ∗ (∃ f, pt c a4 f) ∗ (∃ g, pt c w0M g) ∗ (∃ g, pt c w1M g) ∗ (∃ g, pt c scM g)) -∗ K ⟨⟩))
      ⊢ wp frame (wpE (defs₀ (F := F)) Variants.none c none) Set.univ
          (cc0_mxfp4_linear i a1 ha1 a2 ha2 a3 ha3 a4 ha4 w0M (Memref.isWhole_whole _) w1M (Memref.isWhole_whole _) scM (Memref.isWhole_whole _)) K := by
  simp only [cc0_mxfp4_linear_eq_skeleton]; unfold cc0_mxfp4_linear_skel
  iintro ⟨H1, H2, H3, H4, G0, G1, GS, Hk⟩
  sl_exec_parts
  sl_step
  iapply Hk
  isplitl [H1]; · iexact H1
  isplitl [H2]; · iexact H2
  isplitl [H3]; · iexact H3
  isplitl [H4]; · iexists _; iexact H4
  isplitl [G0]; · iexists _; iexact G0
  isplitl [G1]; · iexists _; iexact G1
  iexists _; iexact GS

set_option maxHeartbeats 2000000 in
/-- The last point: the second scratch multiplied into the output, nothing decoded. -/
theorem runLast (c : Dev nD) (i : grid0.Coords) (h1 : ¬ cond1 i = 1#1) (h2 : ¬ k0_cond2 i = 1#1) (h3 : ¬ k0_cond3 i = 1#1) (h4 : k0_cond4 i = 1#1)
    (a1 : Memref sig .tc .vmem S128x3840 .bf16) (ha1 : a1.IsWhole)
    (a2 : Memref sig .tc .vmem S512x1920 .i8) (ha2 : a2.IsWhole)
    (a3 : Memref sig .tc .vmem S512x120 .i8) (ha3 : a3.IsWhole)
    (a4 : Memref sig .tc .vmem S128x512 .bf16) (ha4 : a4.IsWhole)
    (f1 : Buf (Elt F) (a1.view.loc (c : Thread nD τ))) (f2 : Buf (Elt F) (a2.view.loc (c : Thread nD τ)))
    (f3 : Buf (Elt F) (a3.view.loc (c : Thread nD τ))) (f4 : Buf (Elt F) (a4.view.loc (c : Thread nD τ)))
    (g0 : Buf (Elt F) (w0M.view.loc (c : Thread nD τ))) (g1 : Buf (Elt F) (w1M.view.loc (c : Thread nD τ)))
    (gs : Buf (Elt F) (scM.view.loc (c : Thread nD τ))) (K : PUnit → sProp 𝕄) :
    iprop(pt c a1 f1 ∗ pt c a2 f2 ∗ pt c a3 f3 ∗ pt c a4 f4 ∗ pt c w0M g0 ∗ pt c w1M g1 ∗ pt c scM gs
        ∗ (iprop(pt c a1 f1 ∗ pt c a2 f2 ∗ pt c a3 f3 ∗ (∃ f, pt c a4 f) ∗ (∃ g, pt c w0M g) ∗ (∃ g, pt c w1M g) ∗ (∃ g, pt c scM g)) -∗ K ⟨⟩))
      ⊢ wp frame (wpE (defs₀ (F := F)) Variants.none c none) Set.univ
          (cc0_mxfp4_linear i a1 ha1 a2 ha2 a3 ha3 a4 ha4 w0M (Memref.isWhole_whole _) w1M (Memref.isWhole_whole _) scM (Memref.isWhole_whole _)) K := by
  simp only [cc0_mxfp4_linear_eq_skeleton]; unfold cc0_mxfp4_linear_skel
  iintro ⟨H1, H2, H3, H4, G0, G1, GS, Hk⟩
  sl_exec_parts
  sl_step
  iapply Hk
  isplitl [H1]; · iexact H1
  isplitl [H2]; · iexact H2
  isplitl [H3]; · iexact H3
  isplitl [H4]; · iexists _; iexact H4
  isplitl [G0]; · iexists _; iexact G0
  isplitl [G1]; · iexists _; iexact G1
  iexists _; iexact GS

end Cert.Kernel.Hand
end
-- ==== Proof.KernelRun.lean ====
/-
  The frame of `Kernel`: the body obligation of its one pipeline, from the four triples of KernelFrame, with the output
  window forgotten (nothing here reads what the kernel leaves in it), and the launch by the library.
-/
module

public import proofs.«01_k».proof.Proof.KernelFrame

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

variable {F : FTy → Type} [BitOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- Every grid point takes exactly one of the body's four courses. -/
theorem cases0 : ∀ i : grid0.Coords,
    (cond1 i = 1#1 ∧ ¬ k0_cond2 i = 1#1 ∧ ¬ k0_cond3 i = 1#1 ∧ ¬ k0_cond4 i = 1#1)
    ∨ (¬ cond1 i = 1#1 ∧ k0_cond2 i = 1#1 ∧ ¬ k0_cond3 i = 1#1 ∧ ¬ k0_cond4 i = 1#1)
    ∨ (¬ cond1 i = 1#1 ∧ ¬ k0_cond2 i = 1#1 ∧ k0_cond3 i = 1#1 ∧ ¬ k0_cond4 i = 1#1)
    ∨ (¬ cond1 i = 1#1 ∧ ¬ k0_cond2 i = 1#1 ∧ ¬ k0_cond3 i = 1#1 ∧ k0_cond4 i = 1#1) := by
  decide +kernel

/-- Whichever course the point takes, the body keeps its three inputs and every buffer it writes stays owned. -/
theorem runAny (c : Dev nD) (i : grid0.Coords)
    (a1 : Memref sig .tc .vmem S128x3840 .bf16) (ha1 : a1.IsWhole)
    (a2 : Memref sig .tc .vmem S512x1920 .i8) (ha2 : a2.IsWhole)
    (a3 : Memref sig .tc .vmem S512x120 .i8) (ha3 : a3.IsWhole)
    (a4 : Memref sig .tc .vmem S128x512 .bf16) (ha4 : a4.IsWhole)
    (f1 : Buf (Elt F) (a1.view.loc (c : Thread nD τ))) (f2 : Buf (Elt F) (a2.view.loc (c : Thread nD τ)))
    (f3 : Buf (Elt F) (a3.view.loc (c : Thread nD τ))) (f4 : Buf (Elt F) (a4.view.loc (c : Thread nD τ)))
    (g0 : Buf (Elt F) (w0M.view.loc (c : Thread nD τ))) (g1 : Buf (Elt F) (w1M.view.loc (c : Thread nD τ)))
    (gs : Buf (Elt F) (scM.view.loc (c : Thread nD τ))) (K : PUnit → sProp 𝕄) :
    iprop(pt c a1 f1 ∗ pt c a2 f2 ∗ pt c a3 f3 ∗ pt c a4 f4 ∗ pt c w0M g0 ∗ pt c w1M g1 ∗ pt c scM gs
        ∗ (iprop(pt c a1 f1 ∗ pt c a2 f2 ∗ pt c a3 f3 ∗ (∃ f, pt c a4 f) ∗ (∃ g, pt c w0M g) ∗ (∃ g, pt c w1M g) ∗ (∃ g, pt c scM g)) -∗ K ⟨⟩))
      ⊢ wp frame (wpE (defs₀ (F := F)) Variants.none c none) Set.univ
          (cc0_mxfp4_linear i a1 ha1 a2 ha2 a3 ha3 a4 ha4 w0M (Memref.isWhole_whole _) w1M (Memref.isWhole_whole _) scM (Memref.isWhole_whole _)) K := by
  rcases cases0 i with ⟨h1, h2, h3, h4⟩ | ⟨h1, h2, h3, h4⟩ | ⟨h1, h2, h3, h4⟩ | ⟨h1, h2, h3, h4⟩
  · iintro ⟨H1, H2, H3, H4, G0, G1, GS, Hk⟩
    iapply (runFirst c i h1 h2 h3 h4 a1 ha1 a2 ha2 a3 ha3 a4 ha4 f1 f2 f3 f4 g0 g1 gs K)
    isplitl [H1]; · iexact H1
    isplitl [H2]; · iexact H2
    isplitl [H3]; · iexact H3
    isplitl [H4]; · iexact H4
    isplitl [G0]; · iexact G0
    isplitl [G1]; · iexact G1
    isplitl [GS]; · iexact GS
    iintro ⟨H1, H2, H3, H4, G0, G1, GS⟩
    iapply Hk
    isplitl [H1]; · iexact H1
    isplitl [H2]; · iexact H2
    isplitl [H3]; · iexact H3
    isplitl [H4]; · iexists _; iexact H4
    isplitl [G0]; · iexact G0
    isplitl [G1]; · iexact G1
    iexact GS
  · exact runOdd c i h1 h2 h3 h4 a1 ha1 a2 ha2 a3 ha3 a4 ha4 f1 f2 f3 f4 g0 g1 gs K
  · exact runEven c i h1 h2 h3 h4 a1 ha1 a2 ha2 a3 ha3 a4 ha4 f1 f2 f3 f4 g0 g1 gs K
  · exact runLast c i h1 h2 h3 h4 a1 ha1 a2 ha2 a3 ha3 a4 ha4 f1 f2 f3 f4 g0 g1 gs K

/-! ## The proof data -/

/-- The output window, FORGOTTEN: this frame says nothing of what the kernel leaves in it. -/
def forgets0 : Fin 4 → Bool := fun w => w == 3

/-- The code and scale blocks as staged, filled past the array's end with a byte nothing reads. -/
def codeBlk (c : Dev nD) (t : Fin cfg0.N) : S512x1920.Idx → Elt F .i8 :=
  win0_1.fill (grid0.coords t) (fun _ => Classical.arbitrary _) (iblk m c 1 t)
def scaleBlk (c : Dev nD) (t : Fin cfg0.N) : S512x120.Idx → Elt F .i8 :=
  win0_2.fill (grid0.coords t) (fun _ => Classical.arbitrary _) (iblk m c 2 t)

/-- The proof data on core `c`: the arrays as the region finds them; the inputs' blocks left in place; the output unnamed;
    the scratch buffers owned at anything; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => codeBlk m c t
    | ⟨2, _⟩ => scaleBlk m c t
    | ⟨3, _⟩ => Pipeline.Dat.unnamed (cfg := cfg0) 3 t
  Φ _ := Pipeline.ΦA spec0 c
  q _ := fullShare
  owed _ := 0

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t :=
  before0_0_of m (dats m 0 c) rfl (fun _ => rfl) t d

theorem clip_1 : ∀ t t' : Fin cfg0.N, win0_1.index t = win0_1.index t' → win0_1.clip (grid0.coords t) = win0_1.clip (grid0.coords t') := by
  decide +kernel
theorem clip_2 : ∀ t t' : Fin cfg0.N, win0_2.index t = win0_2.index t' → win0_2.clip (grid0.coords t) = win0_2.clip (grid0.coords t') := by
  decide +kernel

theorem before_1 (c : Dev nD) (t : Fin cfg0.N) (d) :
    (dats m 0 c).before 1 t d = win0_1.fill (grid0.coords t) d (iblk m c 1 t) :=
  (dats m 0 c).before_in_eq_fetched 1 rfl (fun _ => rfl) clip_1 (fun t => win0_1.cut_fill _ _ _) t d
theorem before_2 (c : Dev nD) (t : Fin cfg0.N) (d) :
    (dats m 0 c).before 2 t d = win0_2.fill (grid0.coords t) d (iblk m c 2 t) :=
  (dats m 0 c).before_in_eq_fetched 2 rfl (fun _ => rfl) clip_2 (fun t => win0_2.cut_fill _ _ _) t d

/-! ## The body obligation -/

theorem defs₀_row (t : Fin cfg0.N) : defs₀ (F := F) .tc cfg0.body (cfg0.bodyArgs t (cfg0.slots t)) = bodyAt0 t := by
  unfold defs₀; rw [Defs.onTc_tc]

theorem owns_whole_pt (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns; rw [h.set_eq_univ]

theorem owns_staged0 (c : Dev nD) (s : Fin 1) (X : S128x3840.Idx → Elt F .bf16) :
    (owns (c : Thread nD τ) (stage0_0 s) fullShare X : sProp 𝕄) = iprop(∃ f, ⌜(stage0_0 s).view.read (Elt F) f = X⌝ ∗ pt c (stage0_0 s) f) :=
  owns_whole_pt c _ (hstage0_0 _) X
theorem owns_staged1 (c : Dev nD) (s : Fin 2) (X : S512x1920.Idx → Elt F .i8) :
    (owns (c : Thread nD τ) (stage0_1 s) fullShare X : sProp 𝕄) = iprop(∃ f, ⌜(stage0_1 s).view.read (Elt F) f = X⌝ ∗ pt c (stage0_1 s) f) :=
  owns_whole_pt c _ (hstage0_1 _) X
theorem owns_staged2 (c : Dev nD) (s : Fin 2) (X : S512x120.Idx → Elt F .i8) :
    (owns (c : Thread nD τ) (stage0_2 s) fullShare X : sProp 𝕄) = iprop(∃ f, ⌜(stage0_2 s).view.read (Elt F) f = X⌝ ∗ pt c (stage0_2 s) f) :=
  owns_whole_pt c _ (hstage0_2 _) X
theorem owns_staged3 (c : Dev nD) (s : Fin 2) (X : S128x512.Idx → Elt F .bf16) :
    (owns (c : Thread nD τ) (stage0_3 s) fullShare X : sProp 𝕄) = iprop(∃ f, ⌜(stage0_3 s).view.read (Elt F) f = X⌝ ∗ pt c (stage0_3 s) f) :=
  owns_whole_pt c _ (hstage0_3 _) X

theorem body_obligation (c : Dev nD) :
    BodyObligationLoose (dats (F := F) m 0 c) (defs₀ (F := F)) Variants.none () Set.univ forgets0 := fun t => by
  rw [bigSep_W0, bigSep_W0, defs₀_row]
  simp only [show forgets0 0 = false from rfl, show forgets0 1 = false from rfl, show forgets0 2 = false from rfl,
    show forgets0 3 = true from rfl]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA
  rw [scopedRest0_eq]
  simp only [owns_staged0, owns_staged1, owns_staged2, owns_staged3]
  simp only [before_0 m c t, before_1 m c t, before_2 m c t]
  iintro ⟨⟨⟨⟨%g0, G0⟩, ⟨%g1, G1⟩, ⟨%gs, GS⟩⟩, Hg⟩, Ho, ⟨%d0, H0⟩, ⟨%d1, H1⟩, ⟨%d2, H2⟩, ⟨%d3, H3⟩⟩
  icases H0 with ⟨%f0, %e0, H0⟩
  icases H1 with ⟨%f1, %e1, H1⟩
  icases H2 with ⟨%f2, %e2, H2⟩
  icases H3 with ⟨%f3, %e3, H3⟩
  iapply (runAny c (grid0.coords t) _ _ _ _ _ _ _ _ f0 f1 f2 f3 g0 g1 gs _)
  isplitl [H0]; · iexact H0
  isplitl [H1]; · iexact H1
  isplitl [H2]; · iexact H2
  isplitl [H3]; · iexact H3
  isplitl [G0]; · iexact G0
  isplitl [G1]; · iexact G1
  isplitl [GS]; · iexact GS
  iintro ⟨H0, H1, H2, ⟨%f3', H3⟩, G0, G1, GS⟩
  isplitl [G0 G1 GS Hg]
  · isplitl [G0 G1 GS]
    · isplitl [G0]; · iexact G0
      isplitl [G1]; · iexact G1
      iexact GS
    iexact Hg
  isplitl [Ho]; · iexact Ho
  isplitl [H0]
  · iexists f0; isplitr; · ipureintro; exact e0
    iexact H0
  isplitl [H1]
  · iexists d1
    iexists f1; isplitr
    · ipureintro
      rw [show (dats m 0 c).after 1 t = codeBlk m c t from rfl, codeBlk]
      exact e1.trans (congrArg _ (win0_1.cut_fill _ _ _).symm)
    iexact H1
  isplitl [H2]
  · iexists d2
    iexists f2; isplitr
    · ipureintro
      rw [show (dats m 0 c).after 2 t = scaleBlk m c t from rfl, scaleBlk]
      exact e2.trans (congrArg _ (win0_2.cut_fill _ _ _).symm)
    iexact H2
  iexists (stage0_3 (cfg0.slots t 3)).view.read (Elt F) f3'
  iexists f3'; isplitr; swap; · iexact H3
  ipureintro; rfl

/-! ## The launch -/

-- the launch theorem's implicit arguments are found by unifying its conclusion with this statement
set_option backward.isDefEq.respectTransparency.types false in
/-- At any value instance, from any memory with zero counters: @main terminates on every weakly fair execution; the argument
    arrays end as launched and every semaphore counter at zero. -/
theorem run_main :
    θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  Pipeline.θ_run_frame_forget (Q' := _) cfgs (dats m) (0 : Fin 1) launch0 defs₀ Variants.none forgets0 m ρ main
    (hbody := fun c => body_obligation m c) (hshare := fun c => (dats m 0 c).share_full fun _ => rfl)
    (howed := fun _ _ => rfl) (V := V m) (hmain := hmain m Variants.none) (hA := A_eq m) (hΦ := fun _ _ => rfl)
    (hQ' := fun r h => ⟨fun c => ⟨((h.1 c).2 main_arg0 (Pipeline.mem_restRefs_of main_arg0 (by decide) (by decide))).trans (V_main_arg0 m c),
      (h.1.arr_in c 1 rfl).trans (V_main_arg1 m c), (h.1.arr_in c 2 rfl).trans (V_main_arg2 m c)⟩, h.2⟩)

end Cert.Kernel.Hand
end
-- ==== Proof.IdealFrame.lean ====
/-
  The names the proof about `KernelIdeal` uses throughout: its three scratch buffers, a buffer held whole, and the body's first branch.
-/
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

abbrev w0M : Memref sig .tc .vmem S7680x2x128 .bf16 := Memref.whole cc0_scratch0
abbrev w1M : Memref sig .tc .vmem S7680x2x128 .bf16 := Memref.whole cc0_scratch1
abbrev scM : Memref sig .tc .vmem S60x2x8x128 .i32 := Memref.whole cc0_scratch2

/-- A memref's buffer held whole at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The condition of the body's first branch: the grid point is the first. -/
abbrev cond1 (i : grid0.Coords) : BitVec 1 :=
  Scalar.cmpi .ne (Scalar.extui (Scalar.cmpi .eq (BitVec.ofNat 32 (i 0).val) 0#32) : BitVec 32) 0#32

end Cert.KernelIdeal.Hand
end
-- ==== Proof.Bytes.lean ====
/-
  What the kernel's byte shuffles compute, element by element: a block of bytes whose rows are packed four to a word, the words
  transposed and the bytes unpacked again; and a word read as two 16-bit halves.
-/
module

public import proofs.«01_k».proof.Proof.Gen.KernelIdeal.Skeleton
public import Idealize.ShloMosaic.Lib.Pointwise
public import Idealize.ShloMosaic.Lib.BitcastFour
public import Idealize.ShloMosaic.Lib.BitcastPair
public import Idealize.ShloMosaic.Lib.Bf16Pair
public import Idealize.ShloMosaic.Lib.Bf16PairInverse

@[expose] public section

set_option maxRecDepth 16384

noncomputable section

namespace Cert.KernelIdeal.Hand

open Cert.KernelIdeal Cert.KernelIdeal.Gen
open Idealize.ShloMosaic Idealize.ShloMosaic.TcCoe Idealize.SL.Sem

/-- 32-bit words read as bytes: row `i` of the bytes is byte `i % 4` of word row `i / 4`. -/
theorem bitcast_32_8_getLsbD_ix2 {m r n : Nat} (x : (⟨2, ![r, n]⟩ : Shape).Idx → BitVec 32)
    (h : (⟨2, ![r, n]⟩ : Shape).Bitcasts 32 ⟨2, ![m, n]⟩ 8) (i : Fin m) (l : Fin n) (q : Nat) (hq : q < 8) (p : Fin r)
    (hp : p.val = i.val / 4) :
    (bitcast ⟨2, ![m, n]⟩ 8 x h (ix2 i l)).getLsbD q = (x (ix2 p l)).getLsbD (8 * (i.val % 4) + q) := by
  rw [bitcast_getLsbD x h _ q hq (by decide)]
  have hrow : (⟨2, ![m, n]⟩ : Shape).row (ix2 i l) = i.val := rfl
  have e1 : ((⟨2, ![m, n]⟩ : Shape).row (ix2 i l) * 8 + q) / 32 = i.val / 4 := by rw [hrow]; omega
  have e2 : ((⟨2, ![m, n]⟩ : Shape).row (ix2 i l) * 8 + q) % 32 = 8 * (i.val % 4) + q := by rw [hrow]; omega
  rw [e2]
  congr 2
  funext c
  match c with
  | ⟨0, _⟩ => exact Fin.ext ((h.srcIdx_row _ _ _ ⟨0, Nat.zero_lt_two⟩ rfl).trans (e1.trans hp.symm))
  | ⟨1, _⟩ => exact Fin.ext (h.srcIdx_other _ _ _ ⟨1, Nat.one_lt_two⟩ (by show ¬ 1 + 2 = 2; omega))

/-- Bytes read as 32-bit words: bit `q` of the word at row `a` is bit `q % 8` of byte row `4 a + q / 8`. -/
theorem bitcast_8_32_ix2 {R r n : Nat} (x : (⟨2, ![R, n]⟩ : Shape).Idx → BitVec 8)
    (h : (⟨2, ![R, n]⟩ : Shape).Bitcasts 8 ⟨2, ![r, n]⟩ 32) (a : Fin r) (l : Fin n) (q : Nat) (hq : q < 32) (p : Fin R)
    (hp : p.val = 4 * a.val + q / 8) :
    (bitcast ⟨2, ![r, n]⟩ 32 x h (ix2 a l)).getLsbD q = (x (ix2 p l)).getLsbD (q % 8) :=
  bitcast_8_32_getLsbD_ix2 x h a l q hq p hp

/-- A code chunk shuffled: byte row `i`, lane `l`, is byte `i / 4` of row `4 l + i % 4`. -/
theorem bytesT_codes (x : S512x128.Idx → BitVec 8) (i : Fin 512) (l : Fin 128) :
    bitcast S512x128 8 (transpose S128x128 [1, 0] (bitcast S128x128 32 x bitcasts_S512x128_w8_S128x128_w32)
      transposes_S128x128_p1_0_S128x128) bitcasts_S128x128_w32_S512x128_w8 (ix2 i l)
      = x (ix2 ⟨4 * l.val + i.val % 4, by omega⟩ ⟨i.val / 4, by omega⟩) := by
  apply BitVec.eq_of_getLsbD_eq
  intro q hq
  rw [bitcast_32_8_getLsbD_ix2 _ _ i l q hq ⟨i.val / 4, by omega⟩ rfl]
  pointwise
  rw [bitcast_8_32_ix2 x _ l _ _ (by omega) ⟨4 * l.val + i.val % 4, by omega⟩ (by simp only []; omega)]
  congr 1; omega

/-- The same for the scale block (120 bytes a row). -/
theorem bytesT_scales (x : S512x120.Idx → BitVec 8) (i : Fin 480) (l : Fin 128) :
    bitcast S480x128 8 (transpose S120x128 [1, 0] (bitcast S128x120 32 x bitcasts_S512x120_w8_S128x120_w32)
      transposes_S128x120_p1_0_S120x128) bitcasts_S120x128_w32_S480x128_w8 (ix2 i l)
      = x (ix2 ⟨4 * l.val + i.val % 4, by omega⟩ ⟨i.val / 4, by omega⟩) := by
  apply BitVec.eq_of_getLsbD_eq
  intro q hq
  rw [bitcast_32_8_getLsbD_ix2 _ _ i l q hq ⟨i.val / 4, by omega⟩ rfl]
  pointwise
  rw [bitcast_8_32_ix2 x _ l _ _ (by omega) ⟨4 * l.val + i.val % 4, by omega⟩ (by simp only []; omega)]
  congr 1; omega

/-- Two vectors of rows interleaved into pairs: the first of a pair is the first vector's row, the second the second's. -/
theorem interleave_pair {α : Type} (lo hi : S512x1x128.Idx → α) (h : S512x2x128.Bitcasts 16 S512x1x128 32) (r : Fin 512) (p : Fin 2)
    (l : Fin 128) : interleaveRows S512x2x128 lo hi h (ix3 r p l) = if p = 0 then lo (ix3 r 0 l) else hi (ix3 r 0 l) := by
  have e : ∀ j : S512x1x128.Idx, (j 0).val = r.val → (j 2).val = l.val → j = ix3 r 0 l := fun j h0 h2 => by
    idx_vars j
    obtain rfl : j0 = r := Fin.ext h0
    obtain rfl : j2 = l := Fin.ext h2
    obtain rfl : j1 = 0 := Subsingleton.elim _ _
    rfl
  rcases p with ⟨p, hp⟩
  interval_cases p
  · exact congrArg lo (e _ rfl rfl)
  · exact congrArg hi (e _ rfl rfl)

/-- The 16 bits of the scale byte `e`, as the kernel forms them. -/
def scaleWord (e : BitVec 8) : BitVec 32 :=
  let m := Scalar.maxsi (Scalar.shli (e.setWidth 32) 7#32) 64#32
  Scalar.ori m (Scalar.shli m 16#32)

/-- The decoded scale words: entry `(b, r, l)` of the first half holds the scale of the 32 codes from `64 b` on of row `4 l + r % 4`. -/
theorem pay5_apply (x : Vec Ideal S512x120 .i8) (b : Fin 60) (r : Fin 8) (l : Fin 128) :
    k0_pay5 (F := Ideal) x (ix4 b 0 r l) = scaleWord (x (ix2 ⟨4 * l.val + r.val % 4, by omega⟩ ⟨2 * b.val, by omega⟩)) := by
  pointwise [k0_pay5, k0_pay4, k0_pay3, k0_pay2]
  rw [bytesT_scales, bytesT_scales]
  rcases r with ⟨r, hr⟩
  interval_cases r <;> (show scaleWord _ = _; congr 2; idx_ext)

/-- The second half: the scale of the 32 codes from `64 b + 32` on. -/
theorem pay6_apply (x : Vec Ideal S512x120 .i8) (b : Fin 60) (r : Fin 8) (l : Fin 128) :
    k0_pay6 (F := Ideal) x (ix4 b 0 r l) = scaleWord (x (ix2 ⟨4 * l.val + r.val % 4, by omega⟩ ⟨2 * b.val + 1, by omega⟩)) := by
  pointwise [k0_pay6, k0_pay4, k0_pay3, k0_pay2]
  rw [bytesT_scales, bytesT_scales]
  rcases r with ⟨r, hr⟩
  interval_cases r <;> (show scaleWord _ = _; congr 2; idx_ext)

/-- One chunk of decoded weights: the chunk's code bytes and scale words in, the weights (pairs of rows interleaved) out. -/
def decPay (codes : Vec Ideal S512x128 .i8) (sc : Vec Ideal S4x2x8x128 .i32) : FVec Ideal S512x2x128 .bf16 :=
  k0_pay29 (k0_pay27 codes) (k0_pay28 codes) 0#32 sc

/-- 32-bit words read at 16 bits: row `i` is half `i % 2` of word row `i / 2`. -/
theorem bitcast_32_16_ix2 (x : S64x128.Idx → BitVec 32) (h : S64x128.Bitcasts 32 S128x128 16) (i : Fin 128) (l : Fin 128) :
    bitcast S128x128 16 x h (ix2 i l) = (x (ix2 ⟨i.val / 2, by omega⟩ l)).extractLsb' (16 * (i.val % 2)) 16 := by
  rw [bitcast_32_16 x h]
  have hrow : S128x128.row (ix2 i l) = i.val := rfl
  congr 1
  congr 1
  funext c
  match c with
  | ⟨0, _⟩ => exact Fin.ext (h.srcIdx_row _ _ _ ⟨0, Nat.zero_lt_two⟩ rfl)
  | ⟨1, _⟩ => exact Fin.ext (h.srcIdx_other _ _ _ ⟨1, Nat.one_lt_two⟩ (by show ¬ 1 + 2 = 2; omega))

/-- The value of the four-bit code in `v` (a word below 16), as the kernel's integer arithmetic computes it. -/
def nibVal (v : BitVec 32) : EReal :=
  let e := IntOp.andi (IntOp.shrsi ArithUnit.vector v 1#32) 3#32
  let h : EReal := (FloatOps.sitofp (F := Ideal) FTy.f32 (IntOp.shli ArithUnit.vector
    (Scalar.select (IntOp.cmpi CmpIPredicate.sgt e 0#32) (IntOp.ori 2#32 (IntOp.andi v 1#32)) (IntOp.andi v 1#32))
    (IntOp.maxsi (IntOp.subi e 1#32) 0#32)) : EReal) * Ideal.ofBits FTy.f32 1056964608#32
  Scalar.select (IntOp.cmpi CmpIPredicate.sge v 8#32) (0 - h) h

/-- Nibble `p` of a byte (`0` the low one), as a word. -/
def nib (p : Fin 2) (b : BitVec 8) : BitVec 32 :=
  if p = 0 then IntOp.andi (b.setWidth 32) 15#32 else IntOp.shrsi ArithUnit.vector (b.setWidth 32) 4#32

/-- A decoded weight: the value of one nibble of one code byte, times the scale the scale words hold for it. -/
theorem decPay_apply (codes : Vec Ideal S512x128 .i8) (sc : Vec Ideal S4x2x8x128 .i32) (r : Fin 512) (p : Fin 2) (l : Fin 128) :
    decPay codes sc (ix3 r p l)
      = nibVal (nib p (codes (ix2 ⟨4 * l.val + r.val % 4, by omega⟩ ⟨r.val / 4, by omega⟩)))
        * Ideal.ofBits .bf16 (BitVec.extractLsb' (16 * p.val) 16
            (show BitVec 32 from sc (ix4 ⟨r.val / 128, by omega⟩ ⟨r.val / 64 % 2, by omega⟩ ⟨r.val % 8, by omega⟩ l))) := by
  unfold decPay
  rcases p with ⟨p, hp⟩
  interval_cases p
  · pointwise [k0_pay29, k0_pay28, k0_pay27, interleave_pair]
    rw [bytesT_codes, bitcast_32_16_ix2]
    rw [show 2 * r.val % 16 % 2 = 0 by omega]
    refine Ideal.mul_congr rfl (congrArg (Ideal.ofBits FTy.bf16) ?_)
    pointwise
    rw [show 16 * ((2 * r.val / 256 * 32 + 2 * r.val / 128 % 2 * 16 + 2 * r.val % 16) % 2) = 0 by omega]
    refine congrArg (BitVec.extractLsb' 0 16) (congrArg sc ?_)
    idx_ext
  · pointwise [k0_pay29, k0_pay28, k0_pay27, interleave_pair]
    rw [bytesT_codes, bitcast_32_16_ix2]
    rw [show (2 * r.val + 1) % 16 % 2 = 1 by omega]
    refine Ideal.mul_congr rfl (congrArg (Ideal.ofBits FTy.bf16) ?_)
    pointwise
    rw [show 16 * (((2 * r.val + 1) / 256 * 32 + (2 * r.val + 1) / 128 % 2 * 16 + (2 * r.val + 1) % 16) % 2) = 16 by omega]
    refine congrArg (BitVec.extractLsb' 16 16) (congrArg sc ?_)
    idx_ext

end Cert.KernelIdeal.Hand
end
-- ==== Proof.DecodeValue.lean ====
/-
  What a decoded scratch holds. A decode stores the scale words in two pieces and the weights in fifteen; here the stored pieces are
  written as one list, the four courses of the body are seen to store exactly that list, and the scratch is read back element by element.
-/
module

public import proofs.«01_k».proof.Proof.IdealFrame
public import proofs.«01_k».proof.Proof.Bytes

@[expose] public section

set_option maxRecDepth 16384

noncomputable section

namespace Cert.KernelIdeal.Hand

open Cert.KernelIdeal Cert.KernelIdeal.Gen
open Idealize.ShloMosaic Idealize.ShloMosaic.TcCoe

local notation "𝔽" => Idealize.ShloMosaic.Ideal

theorem inbC (c : Fin 15) : ∀ a, (![0, 128 * c.val] : Fin 2 → ℕ) a + S512x128.size a ≤ S512x1920.size a := by
  intro a; fin_cases a
  · show 0 + 512 ≤ 512; omega
  · show 128 * c.val + 128 ≤ 1920; omega

theorem inbS (c : Fin 15) : ∀ a, (![4 * c.val, 0, 0, 0] : Fin 4 → ℕ) a + S4x2x8x128.size a ≤ S60x2x8x128.size a := by
  intro a; fin_cases a
  · show 4 * c.val + 4 ≤ 60; omega
  all_goals exact Nat.le_of_eq (Nat.zero_add _)

theorem inbW (c : Fin 15) : ∀ a, (![512 * c.val, 0, 0] : Fin 3 → ℕ) a + S512x2x128.size a ≤ S7680x2x128.size a := by
  intro a; fin_cases a
  · show 512 * c.val + 512 ≤ 7680; omega
  all_goals exact Nat.le_of_eq (Nat.zero_add _)

section
variable (c : Dev nD) (a2 : Memref sig .tc .vmem S512x1920 .i8) (f2 : Buf (Elt 𝔽) (a2.view.loc (c : Thread nD τ)))
    (a3 : Memref sig .tc .vmem S512x120 .i8) (f3 : Buf (Elt 𝔽) (a3.view.loc (c : Thread nD τ)))

/-- The two pieces of scale words a decode stores. -/
def scL : List (View.Piece (Elt 𝔽) S60x2x8x128 .i32) :=
  [⟨Rect.unit ![0, 1, 0, 0] S60x1x8x128.size inb_S60x2x8x128_S60x1x8x128_0_1_0_0,
      k0_pay6 (View.readAt (Elt 𝔽) a3.view (Rect.unit ![0, 0] S512x120.size inb_S512x120_S512x120_0_0).toLoadRect f3)⟩,
   ⟨Rect.unit ![0, 0, 0, 0] S60x1x8x128.size inb_S60x2x8x128_S60x1x8x128_0_0_0_0,
      k0_pay5 (View.readAt (Elt 𝔽) a3.view (Rect.unit ![0, 0] S512x120.size inb_S512x120_S512x120_0_0).toLoadRect f3)⟩]

/-- The `k`-th piece of weights a decode stores. -/
def decPiece (k : Fin 15) : View.Piece (Elt 𝔽) S7680x2x128 .bf16 :=
  ⟨Rect.unit ![512 * k.val, 0, 0] S512x2x128.size (inbW k),
    decPay (View.readAt (Elt 𝔽) a2.view (Rect.unit (s := S512x1920) ![0, 128 * k.val] S512x128.size (inbC k)).toLoadRect f2)
      (scM.view.readCov (scL c a3 f3) (Rect.unit (s := S60x2x8x128) ![4 * k.val, 0, 0, 0] S4x2x8x128.size (inbS k)).toLoadRect)⟩

/-- All fifteen, the last stored first. -/
def decL : List (View.Piece (Elt 𝔽) S7680x2x128 .bf16) :=
  [14, 13, 12, 11, 10, 9, 8, 7, 6, 5, 4, 3, 2, 1, 0].map (decPiece c a2 f2 a3 f3)

/-- The value of a scale byte. -/
def sclVal (e : BitVec 8) : EReal := Ideal.ofBits .bf16 (BitVec.extractLsb' 0 16 (scaleWord e))

/-- The two halves of a scale word are the same. -/
theorem scaleWord_half (e : BitVec 8) (p : Fin 2) :
    BitVec.extractLsb' (16 * p.val) 16 (scaleWord e) = BitVec.extractLsb' 0 16 (scaleWord e) := by
  revert p e; decide +kernel

/-- The scale words as one array, from the staged scale bytes. -/
def scG (S : S512x120.Idx → BitVec 8) (j : S60x2x8x128.Idx) : BitVec 32 :=
  scaleWord (S (ix2 ⟨4 * (j 3).val + (j 2).val % 4, by have : (j 3).val < 128 := (j 3).isLt; omega⟩
    ⟨2 * (j 0).val + (j 1).val, by have h0 : (j 0).val < 60 := (j 0).isLt; have h1 : (j 1).val < 2 := (j 1).isLt; omega⟩))

theorem scL_agree (q : View.Piece (Elt 𝔽) S60x2x8x128 .i32) (hq : q ∈ scL c a3 f3) (x : q.1.shape.Idx) :
    q.2 x = scG (a3.view.read (Elt 𝔽) f3) (q.1.emb x) := by
  simp only [scL, List.mem_cons, List.not_mem_nil, or_false] at hq
  rcases hq with rfl | rfl
  · idx_vars x
    obtain rfl : x1 = 0 := Subsingleton.elim _ _
    refine (pay6_apply _ x0 x2 x3).trans (congrArg scaleWord (congrArg (a3.view.read (Elt 𝔽) f3) ?_))
    funext a; apply Fin.ext; fin_cases a
    · show 0 + 1 * (4 * x3.val + x2.val % 4) = 4 * (0 + 1 * x3.val) + (0 + 1 * x2.val) % 4; simp only [Nat.zero_add, Nat.one_mul]
    · show 0 + 1 * (2 * x0.val + 1) = 2 * (0 + 1 * x0.val) + (1 + 1 * 0); omega
  · idx_vars x
    obtain rfl : x1 = 0 := Subsingleton.elim _ _
    refine (pay5_apply _ x0 x2 x3).trans (congrArg scaleWord (congrArg (a3.view.read (Elt 𝔽) f3) ?_))
    funext a; apply Fin.ext; fin_cases a
    · show 0 + 1 * (4 * x3.val + x2.val % 4) = 4 * (0 + 1 * x3.val) + (0 + 1 * x2.val) % 4; simp only [Nat.zero_add, Nat.one_mul]
    · show 0 + 1 * (2 * x0.val) = 2 * (0 + 1 * x0.val) + (0 + 1 * 0); omega

theorem scL_cover (y : S60x2x8x128.Idx) : ∃ q ∈ scL c a3 f3, y ∈ q.1.set := by
  idx_vars y
  rcases y1 with ⟨p, hp⟩
  interval_cases p
  · refine ⟨_, List.mem_cons_of_mem _ List.mem_cons_self, (Rect.mem_set_unit (inb := inb_S60x2x8x128_S60x1x8x128_0_0_0_0)).mpr fun a => ?_⟩
    fin_cases a
    · show 0 ≤ y0.val ∧ y0.val < 0 + 60; omega
    · show 0 ≤ 0 ∧ 0 < 0 + 1; omega
    · show 0 ≤ y2.val ∧ y2.val < 0 + 8; omega
    · show 0 ≤ y3.val ∧ y3.val < 0 + 128; omega
  · refine ⟨_, List.mem_cons_self, (Rect.mem_set_unit (inb := inb_S60x2x8x128_S60x1x8x128_0_1_0_0)).mpr fun a => ?_⟩
    fin_cases a
    · show 0 ≤ y0.val ∧ y0.val < 0 + 60; omega
    · show 1 ≤ 1 ∧ 1 < 1 + 1; omega
    · show 0 ≤ y2.val ∧ y2.val < 0 + 8; omega
    · show 0 ≤ y3.val ∧ y3.val < 0 + 128; omega

/-- A scale word read back. -/
theorem sc_read (k : Fin 15) (b : Fin 4) (p : Fin 2) (r : Fin 8) (l : Fin 128) :
    scM.view.readCov (scL c a3 f3) (Rect.unit (s := S60x2x8x128) ![4 * k.val, 0, 0, 0] S4x2x8x128.size (inbS k)).toLoadRect (ix4 b p r l)
      = scaleWord (a3.view.read (Elt 𝔽) f3 (ix2 ⟨4 * l.val + r.val % 4, by omega⟩ ⟨8 * k.val + 2 * b.val + p.val, by omega⟩)) := by
  unfold View.readCov
  rw [View.readAt_apply]
  refine (View.read_writes_apply_of_pieces scM.view scM.view.junk (scG (a3.view.read (Elt 𝔽) f3)) (scL c a3 f3)
    (scL_agree c a3 f3) _ (scL_cover c a3 f3 _)).trans ?_
  unfold scG
  refine congrArg scaleWord (congrArg (a3.view.read (Elt 𝔽) f3) ?_)
  funext a; apply Fin.ext; fin_cases a
  · show 4 * (0 + 1 * l.val) + (0 + 1 * r.val) % 4 = 4 * l.val + r.val % 4; simp only [Nat.zero_add, Nat.one_mul]
  · show 2 * (4 * k.val + 1 * b.val) + (0 + 1 * p.val) = 8 * k.val + 2 * b.val + p.val; omega

/-- The weights as one array, from the staged codes and scale bytes. -/
def decG (C : S512x1920.Idx → BitVec 8) (S : S512x120.Idx → BitVec 8) (j : S7680x2x128.Idx) : EReal :=
  nibVal (nib (j 1) (C (ix2 ⟨4 * (j 2).val + (j 0).val % 4, by have : (j 2).val < 128 := (j 2).isLt; omega⟩
    ⟨(j 0).val / 4, by have : (j 0).val < 7680 := (j 0).isLt; omega⟩)))
    * sclVal (S (ix2 ⟨4 * (j 2).val + (j 0).val % 4, by have : (j 2).val < 128 := (j 2).isLt; omega⟩
    ⟨(j 0).val / 64, by have : (j 0).val < 7680 := (j 0).isLt; omega⟩))

/-- A decoded weight scratch read back: row `r`, part `p`, lane `l` holds nibble `p` of byte `r / 4` of code row `4 l + r % 4`, times
    the scale of that byte's block of 32. -/
theorem dec_read (M : Memref sig .tc .vmem S7680x2x128 .bf16) (g : Buf (Elt 𝔽) (M.view.loc (c : Thread nD τ))) (r : Fin 7680) (p : Fin 2) (l : Fin 128) :
    M.view.read (Elt 𝔽) (M.view.writes (Elt 𝔽) g (decL c a2 f2 a3 f3)) (ix3 r p l)
      = nibVal (nib p (a2.view.read (Elt 𝔽) f2 (ix2 ⟨4 * l.val + r.val % 4, by omega⟩ ⟨r.val / 4, by omega⟩)))
        * sclVal (a3.view.read (Elt 𝔽) f3 (ix2 ⟨4 * l.val + r.val % 4, by omega⟩ ⟨r.val / 64, by omega⟩)) := by
  refine View.read_writes_apply_of_pieces M.view g (decG (a2.view.read (Elt 𝔽) f2) (a3.view.read (Elt 𝔽) f3)) (decL c a2 f2 a3 f3) ?_ _ ?_
  · intro q hq x
    obtain ⟨k, -, rfl⟩ := List.mem_map.mp hq
    idx_vars x
    refine (decPay_apply _ _ x0 x1 x2).trans ?_
    rw [sc_read, scaleWord_half]
    refine Ideal.mul_congr ?_ (congrArg sclVal (congrArg (a3.view.read (Elt 𝔽) f3) ?_))
    · refine congrArg nibVal ?_
      have e1 : (Rect.unit (s := S7680x2x128) ![512 * k.val, 0, 0] S512x2x128.size (inbW k)).emb (ix3 x0 x1 x2) 1 = x1 :=
        Fin.ext (by show 0 + 1 * x1.val = x1.val; omega)
      refine congrArg₂ nib e1.symm (congrArg (a2.view.read (Elt 𝔽) f2) ?_)
      funext a; apply Fin.ext; fin_cases a
      · show 0 + 1 * (4 * x2.val + x0.val % 4) = 4 * (0 + 1 * x2.val) + (512 * k.val + 1 * x0.val) % 4; omega
      · show 128 * k.val + 1 * (x0.val / 4) = (512 * k.val + 1 * x0.val) / 4; omega
    · funext a; apply Fin.ext; fin_cases a
      · show 4 * x2.val + x0.val % 8 % 4 = 4 * (0 + 1 * x2.val) + (512 * k.val + 1 * x0.val) % 4; omega
      · show 8 * k.val + 2 * (x0.val / 128) + x0.val / 64 % 2 = (512 * k.val + 1 * x0.val) / 64; omega
  · refine ⟨_, List.mem_map.mpr ⟨⟨r.val / 512, by omega⟩, ?_, rfl⟩, (Rect.mem_set_unit (inb := inbW ⟨r.val / 512, by omega⟩)).mpr fun a => ?_⟩
    · exact (by decide : ∀ k : Fin 15, k ∈ ([14, 13, 12, 11, 10, 9, 8, 7, 6, 5, 4, 3, 2, 1, 0] : List (Fin 15))) _
    · fin_cases a
      · show 512 * (r.val / 512) ≤ r.val ∧ r.val < 512 * (r.val / 512) + 512; omega
      · show 0 ≤ p.val ∧ p.val < 0 + 2; omega
      · show 0 ≤ l.val ∧ l.val < 0 + 128; omega

end

end Cert.KernelIdeal.Hand
-- ==== Proof.Matmul.lean ====
/-
  What a multiply stores. The accumulation over the fifteen stretches of the contraction and the gathers that put its columns back in
  order are written once, as one list of four stored tiles, and the list is read element by element.
-/
module

public import proofs.«01_k».proof.Proof.IdealFrame
public import proofs.«01_k».proof.Proof.Bytes

@[expose] public section

set_option maxRecDepth 16384

noncomputable section

namespace Cert.KernelIdeal.Hand

open Cert.KernelIdeal Cert.KernelIdeal.Gen
open Idealize.ShloMosaic Idealize.ShloMosaic.TcCoe

local notation "𝔽" => Idealize.ShloMosaic.Ideal

/-! ## The four gathers of an output tile -/

/-- The lane number. -/
def laneV : IVec S128x128 32 := iota .tc S128x128 32 [1] iota_S128x128_d1_w32

/-- The lane number divided by four, rounded down, plus `k`. -/
def idxV (k : BitVec 32) : IVec S128x128 32 :=
  addi (broadcast S128x128 k)
    (select
      (andi
        (cmpi .ne
          (subi (extui 32 (cmpi .sgt laneV (broadcast S128x128 0#32)) natLt_1_32)
            (extui 32 (cmpi .slt laneV (broadcast S128x128 0#32)) natLt_1_32))
          (broadcast S128x128 (Scalar.subi (Scalar.extui (Scalar.cmpi .sgt 4#32 0#32)) (Scalar.extui (Scalar.cmpi .slt 4#32 0#32)))))
        (cmpi .ne (remsi laneV (broadcast S128x128 4#32)) (broadcast S128x128 0#32)))
      (subi (divsi laneV (broadcast S128x128 4#32)) (broadcast S128x128 1#32))
      (divsi laneV (broadcast S128x128 4#32)))

/-- An index made nonnegative, as the gather takes it. -/
def wrapV (i : IVec S128x128 32) : IVec S128x128 32 :=
  shapeCast S128x128 (shapeCast S128x128x1
    (select (cmpi .slt i (broadcast S128x128 0#32)) (addi i (broadcast S128x128 128#32)) i)
    shapeCasts_S128x128_S128x128x1) shapeCasts_S128x128x1_S128x128

/-- The lane number modulo four. -/
def modV : IVec S128x128 32 :=
  let d : BitVec 32 := Scalar.select (Scalar.cmpi .eq 4#32 0#32) 1#32 4#32
  let q : IVec S128x128 32 := remsi laneV (broadcast S128x128 d)
  select
    (andi (xori (cmpi .slt q (broadcast S128x128 0#32))
        (broadcastTo S128x128 (broadcast S128x128 (Scalar.cmpi .slt d 0#32)) broadcasts_S128x128_S128x128))
      (cmpi .ne q (broadcast S128x128 0#32)))
    (addi q (broadcast S128x128 d)) q

/-- One stored tile: lane `l` takes lane `k + l / 4` of the part `l % 4`. -/
def tile (k : BitVec 32) (P0 P1 P2 P3 : FVec 𝔽 S128x128 .f32) : FVec 𝔽 S128x128 .bf16 :=
  truncf .bf16
    (select (cmpi .eq modV (broadcast S128x128 3#32)) (dynamicGather 1 P3 (wrapV (idxV k)))
      (select (cmpi .eq modV (broadcast S128x128 2#32)) (dynamicGather 1 P2 (wrapV (idxV k)))
        (select (cmpi .eq modV (broadcast S128x128 1#32)) (dynamicGather 1 P1 (wrapV (idxV k)))
          (dynamicGather 1 P0 (wrapV (idxV k)))))) bitsLt_bf16_f32

theorem gather_apply (P : FVec 𝔽 S128x128 .f32) (i : IVec S128x128 32) (m l : Fin 128) :
    dynamicGather 1 P i (ix2 m l) = P (ix2 m ⟨(i (ix2 m l)).toNat % 128, by omega⟩) := by
  unfold dynamicGather
  refine congrArg P ?_
  funext a; apply Fin.ext; fin_cases a <;> rfl

theorem wrapV_apply (c : Fin 4) (m l : Fin 128) : (wrapV (idxV (BitVec.ofNat 32 (32 * c.val))) (ix2 m l)).toNat = 32 * c.val + l.val / 4 := by
  pointwise [wrapV, idxV, laneV]
  revert l c; decide +kernel

theorem modV_apply (m l : Fin 128) : modV (ix2 m l) = BitVec.ofNat 32 (l.val % 4) := by
  pointwise [modV, laneV]
  revert l; decide +kernel

theorem tile_apply (c : Fin 4) (P : Fin 4 → FVec 𝔽 S128x128 .f32) (m l : Fin 128) :
    tile (BitVec.ofNat 32 (32 * c.val)) (P 0) (P 1) (P 2) (P 3) (ix2 m l) = P ⟨l.val % 4, by omega⟩ (ix2 m ⟨32 * c.val + l.val / 4, by omega⟩) := by
  have hi : ∀ i, dynamicGather 1 (P i) (wrapV (idxV (BitVec.ofNat 32 (32 * c.val)))) (ix2 m l)
      = P i (ix2 m ⟨32 * c.val + l.val / 4, by omega⟩) := fun i => by
    rw [gather_apply]
    refine congrArg (P i) (congrArg (ix2 m) (Fin.ext ?_))
    show _ % 128 = 32 * c.val + l.val / 4
    rw [wrapV_apply]; omega
  show Scalar.select (IntOp.cmpi .eq (modV (ix2 m l)) 3#32) (dynamicGather 1 (P 3) (wrapV (idxV (BitVec.ofNat 32 (32 * c.val)))) (ix2 m l))
    (Scalar.select (IntOp.cmpi .eq (modV (ix2 m l)) 2#32) (dynamicGather 1 (P 2) (wrapV (idxV (BitVec.ofNat 32 (32 * c.val)))) (ix2 m l))
    (Scalar.select (IntOp.cmpi .eq (modV (ix2 m l)) 1#32) (dynamicGather 1 (P 1) (wrapV (idxV (BitVec.ofNat 32 (32 * c.val)))) (ix2 m l))
      (dynamicGather 1 (P 0) (wrapV (idxV (BitVec.ofNat 32 (32 * c.val)))) (ix2 m l)))) = _
  rw [hi, hi, hi, hi, modV_apply]
  have key : ∀ (q : Fin 4) (z : Fin 4 → EReal),
      Scalar.select (IntOp.cmpi .eq (BitVec.ofNat 32 q.val) 3#32) (z 3) (Scalar.select (IntOp.cmpi .eq (BitVec.ofNat 32 q.val) 2#32) (z 2)
        (Scalar.select (IntOp.cmpi .eq (BitVec.ofNat 32 q.val) 1#32) (z 1) (z 0))) = z q := fun q z => by
    fin_cases q <;> rfl
  exact key ⟨l.val % 4, by omega⟩ fun i => P i (ix2 m ⟨32 * c.val + l.val / 4, by omega⟩)

/-! ## The accumulation -/

/-- One stretch of 256 of the contraction, added to what came before. -/
def accStep (acc : FVec 𝔽 S128x512 .f32) (xs : Vec 𝔽 S128x256 .bf16) (w0 w1 w2 w3 : Vec 𝔽 S128x2x128 .bf16) : FVec 𝔽 S128x512 .f32 :=
  have lhs : FVec 𝔽 S128x256 .bf16 := shapeCast S128x256 xs shapeCasts_S128x256_S128x256
  have rhs : FVec 𝔽 S256x512 .bf16 := concatenate S256x512 1 [⟨S256x128, k0_pay294 (F := 𝔽) w0⟩, ⟨S256x128, k0_pay294 (F := 𝔽) w1⟩,
      ⟨S256x128, k0_pay294 (F := 𝔽) w2⟩, ⟨S256x128, k0_pay294 (F := 𝔽) w3⟩]
    concatenates_S256x128_S256x128_S256x128_S256x128_S256x512_d1
  have zero : FVec 𝔽 S128x512 .f32 := constant S128x512 .f32 0x00000000#32
  have prod : FVec 𝔽 S128x512 .f32 := matmul dot_S128x256_S256x512_S128x512_1_0_0_1_n_n none lhs rhs zero
  addf acc prod

theorem pairs_apply (w : Vec 𝔽 S128x2x128 .bf16) (k : Fin 256) (l : Fin 128) :
    k0_pay294 w (ix2 k l) = w (ix3 ⟨k.val / 2, by omega⟩ ⟨k.val % 2, by omega⟩ l) := by
  have e : ∀ (u v : S128x128.Idx → EReal), interleaveRows S256x128 u v bitcasts_S256x128_w16_S128x128_w32 (ix2 k l)
      = if k.val % 2 = 0 then u (ix2 ⟨k.val / 2, by omega⟩ l) else v (ix2 ⟨k.val / 2, by omega⟩ l) := fun u v => by
    have ej : ∀ j : S128x128.Idx, (j 0).val = k.val / 2 → (j 1).val = l.val → j = ix2 ⟨k.val / 2, by omega⟩ l := fun j h0 h1 => by
      funext a; apply Fin.ext; fin_cases a
      · exact h0
      · exact h1
    unfold interleaveRows
    exact if_congr Iff.rfl (congrArg u (ej _ rfl rfl)) (congrArg v (ej _ rfl rfl))
  unfold k0_pay294
  refine (e _ _).trans ?_
  split_ifs with h
  · pointwise
    refine congrArg w ?_
    idx_ext
  · pointwise
    refine congrArg w ?_
    idx_ext

theorem accStep_apply (acc : FVec 𝔽 S128x512 .f32) (xs : Vec 𝔽 S128x256 .bf16) (w : Fin 4 → Vec 𝔽 S128x2x128 .bf16) (m : Fin 128) (j : Fin 512) :
    accStep acc xs (w 0) (w 1) (w 2) (w 3) (ix2 m j)
      = acc (ix2 m j) + ∑ k : Fin 256, xs (ix2 m k) * w ⟨j.val / 128, by omega⟩ (ix3 ⟨k.val / 2, by omega⟩ ⟨k.val % 2, by omega⟩ ⟨j.val % 128, by omega⟩) := by
  pointwise [accStep]
  refine Ideal.add_congr rfl (Finset.sum_congr rfl fun k _ => Ideal.mul_congr rfl ?_)
  have hw : ∀ (i : Fin 4) (l : Fin 128), i.val = j.val / 128 → l.val = j.val % 128 → k0_pay294 (w i) (ix2 k l)
      = w ⟨j.val / 128, by omega⟩ (ix3 ⟨k.val / 2, by omega⟩ ⟨k.val % 2, by omega⟩ ⟨j.val % 128, by omega⟩) := fun i l hi hl => by
    rw [show (⟨j.val / 128, by omega⟩ : Fin 4) = i from Fin.ext hi.symm, show (⟨j.val % 128, by omega⟩ : Fin 128) = l from Fin.ext hl.symm]
    exact pairs_apply (w i) k l
  by_cases h0 : j.val < 128
  · rw [dif_pos h0]; exact hw 0 ⟨j.val, h0⟩ (by show 0 = j.val / 128; omega) (by show j.val = j.val % 128; omega)
  rw [dif_neg h0]
  by_cases h1 : j.val - 128 < 128
  · rw [dif_pos h1]; exact hw 1 ⟨j.val - 128, h1⟩ (by show 1 = j.val / 128; omega) (by show j.val - 128 = j.val % 128; omega)
  rw [dif_neg h1]
  by_cases h2 : j.val - 128 - 128 < 128
  · rw [dif_pos h2]; exact hw 2 ⟨j.val - 128 - 128, h2⟩ (by show 2 = j.val / 128; omega) (by show j.val - 128 - 128 = j.val % 128; omega)
  rw [dif_neg h2]
  exact hw 3 ⟨j.val - 128 - 128 - 128, by omega⟩ (by show 3 = j.val / 128; omega) (by show j.val - 128 - 128 - 128 = j.val % 128; omega)

/-- All fifteen stretches, from zero. -/
def mmAcc (X : Fin 15 → Vec 𝔽 S128x256 .bf16) (W : Fin 15 → Fin 4 → Vec 𝔽 S128x2x128 .bf16) : FVec 𝔽 S128x512 .f32 :=
  [0, 1, 2, 3, 4, 5, 6, 7, 8, 9, 10, 11, 12, 13, 14].foldl (fun acc k => accStep acc (X k) (W k 0) (W k 1) (W k 2) (W k 3)) k0_pay290

theorem foldl_apply (X : Fin 15 → Vec 𝔽 S128x256 .bf16) (W : Fin 15 → Fin 4 → Vec 𝔽 S128x2x128 .bf16) (m : Fin 128) (j : Fin 512) :
    ∀ (L : List (Fin 15)) (z : FVec 𝔽 S128x512 .f32),
      (L.foldl (fun acc k => accStep acc (X k) (W k 0) (W k 1) (W k 2) (W k 3)) z) (ix2 m j)
        = z (ix2 m j) + (L.map fun k => ∑ q : Fin 256, (show EReal from X k (ix2 m q))
            * (show EReal from W k ⟨j.val / 128, by omega⟩ (ix3 ⟨q.val / 2, by omega⟩ ⟨q.val % 2, by omega⟩ ⟨j.val % 128, by omega⟩))).sum
  | [], z => (add_zero (show EReal from z (ix2 m j))).symm
  | k :: L, z => by
    rw [List.foldl_cons, foldl_apply X W m j L, accStep_apply, List.map_cons, List.sum_cons]
    exact add_assoc (G := EReal) _ _ _

theorem mmAcc_apply (X : Fin 15 → Vec 𝔽 S128x256 .bf16) (W : Fin 15 → Fin 4 → Vec 𝔽 S128x2x128 .bf16) (m : Fin 128) (j : Fin 512) :
    mmAcc X W (ix2 m j) = ∑ k : Fin 15, ∑ q : Fin 256, (show EReal from X k (ix2 m q))
      * (show EReal from W k ⟨j.val / 128, by omega⟩ (ix3 ⟨q.val / 2, by omega⟩ ⟨q.val % 2, by omega⟩ ⟨j.val % 128, by omega⟩)) := by
  have h0 : k0_pay290 (F := 𝔽) (ix2 m j) = (0 : EReal) := by pointwise [k0_pay290]
  unfold mmAcc
  rw [foldl_apply, h0, zero_add, Fin.sum_univ_def]
  rfl

/-- The accumulated columns in four parts of 128, each rounded to bf16 and widened again. -/
def parts (acc : FVec 𝔽 S128x512 .f32) : Fin 4 → FVec 𝔽 S128x128 .f32 :=
  have y : FVec 𝔽 S128x512 .bf16 := truncf .bf16 acc bitsLt_bf16_f32
  ![extf .f32 (extractStridedSlice S128x128 ![0, 0] y slices_S128x512_o0_0_S128x128) bitsLt_bf16_f32,
    extf .f32 (extractStridedSlice S128x128 ![0, 128] y slices_S128x512_o0_128_S128x128) bitsLt_bf16_f32,
    extf .f32 (extractStridedSlice S128x128 ![0, 256] y slices_S128x512_o0_256_S128x128) bitsLt_bf16_f32,
    extf .f32 (extractStridedSlice S128x128 ![0, 384] y slices_S128x512_o0_384_S128x128) bitsLt_bf16_f32]

theorem parts_apply (acc : FVec 𝔽 S128x512 .f32) (i : Fin 4) (m l : Fin 128) :
    parts acc i (ix2 m l) = acc (ix2 m ⟨128 * i.val + l.val, by omega⟩) := by
  rcases i with ⟨i, hi⟩
  interval_cases i <;> (refine congrArg acc ?_; idx_ext)

theorem inbO (k : Fin 4) : ∀ a, (![0, 128 * k.val] : Fin 2 → ℕ) a + S128x128.size a ≤ S128x512.size a := by
  intro a; fin_cases a
  · show 0 + 128 ≤ 128; omega
  · show 128 * k.val + 128 ≤ 512; omega

theorem inbX (c : Fin 15) : ∀ a, (![0, 256 * c.val] : Fin 2 → ℕ) a + S128x256.size a ≤ S128x3840.size a := by
  intro a; fin_cases a
  · show 0 + 128 ≤ 128; omega
  · show 256 * c.val + 256 ≤ 3840; omega

theorem inbV (c : Fin 15) (i : Fin 4) : ∀ a, S128x2x128.size a = 0
    ∨ (![512 * c.val + i.val, 0, 0] : Fin 3 → ℕ) a + (![4, 1, 1] : Fin 3 → ℕ) a * (S128x2x128.size a - 1) < S7680x2x128.size a := by
  intro a; right; fin_cases a
  · show 512 * c.val + i.val + 4 * (128 - 1) < 7680; omega
  · show 0 + 1 * (2 - 1) < 2; omega
  · show 0 + 1 * (128 - 1) < 128; omega

section
variable (c : Dev nD) (a1 : Memref sig .tc .vmem S128x3840 .bf16) (f1 : Buf (Elt 𝔽) (a1.view.loc (c : Thread nD τ)))
    (M : Memref sig .tc .vmem S7680x2x128 .bf16) (g : Buf (Elt 𝔽) (M.view.loc (c : Thread nD τ)))

/-- The columns of one stretch, loaded. -/
def Xof (k : Fin 15) : Vec 𝔽 S128x256 .bf16 :=
  View.readAt (Elt 𝔽) a1.view (Rect.unit (s := S128x3840) ![0, 256 * k.val] S128x256.size (inbX k)).toLoadRect f1

/-- Every fourth row of one stretch of the weights, loaded. -/
def Wof (k : Fin 15) (i : Fin 4) : Vec 𝔽 S128x2x128 .bf16 :=
  View.readAt (Elt 𝔽) M.view
    { off := ![512 * k.val + i.val, 0, 0], size := S128x2x128.size, stride := ![4, 1, 1], inb := inbV k i } g

/-- The `k`-th stored tile. -/
def mmPiece (k : Fin 4) : View.Piece (Elt 𝔽) S128x512 .bf16 :=
  ⟨Rect.unit ![0, 128 * k.val] S128x128.size (inbO k),
    tile (BitVec.ofNat 32 (32 * k.val)) (parts (mmAcc (Xof c a1 f1) (Wof c M g)) 0) (parts (mmAcc (Xof c a1 f1) (Wof c M g)) 1)
      (parts (mmAcc (Xof c a1 f1) (Wof c M g)) 2) (parts (mmAcc (Xof c a1 f1) (Wof c M g)) 3)⟩

/-- All four, the last stored first. -/
def mmL : List (View.Piece (Elt 𝔽) S128x512 .bf16) := [3, 2, 1, 0].map (mmPiece c a1 f1 M g)

/-- The product as one array, from the activations and a weight scratch: output column `j` is column `j / 4` of the rows that are `j % 4`
    modulo four. -/
def mmG (X : S128x3840.Idx → EReal) (W : S7680x2x128.Idx → EReal) (y : S128x512.Idx) : EReal :=
  ∑ K : Fin 3840, X (ix2 (y 0) K) * W (ix3 ⟨4 * (K.val / 2) + (y 1).val % 4, by omega⟩ ⟨K.val % 2, by omega⟩
    ⟨(y 1).val / 4, by have : (y 1).val < 512 := (y 1).isLt; omega⟩)

theorem mmPiece_apply (k : Fin 4) (m l : Fin 128) :
    (mmPiece c a1 f1 M g k).2 (ix2 m l)
      = mmG (a1.view.read (Elt 𝔽) f1) (M.view.read (Elt 𝔽) g) (ix2 m ⟨128 * k.val + l.val, by omega⟩) := by
  refine (tile_apply k (parts (mmAcc (Xof c a1 f1) (Wof c M g))) m l).trans ?_
  rw [parts_apply, mmAcc_apply]
  unfold mmG
  rw [Fin.sum_univ_tiles 15 256 rfl]
  refine Finset.sum_congr rfl fun q _ => Finset.sum_congr rfl fun t _ => ?_
  refine Ideal.mul_congr (congrArg (a1.view.read (Elt 𝔽) f1) ?_) (congrArg (M.view.read (Elt 𝔽) g) ?_)
  · funext a; apply Fin.ext; fin_cases a
    · show 0 + 1 * m.val = m.val; omega
    · show 256 * q.val + 1 * t.val = q.val * 256 + t.val; omega
  · funext a; apply Fin.ext; fin_cases a
    · show 512 * q.val + (128 * (l.val % 4) + (32 * k.val + l.val / 4)) / 128 + 4 * (t.val / 2)
        = 4 * ((q.val * 256 + t.val) / 2) + (128 * k.val + l.val) % 4
      have e1 : (128 * (l.val % 4) + (32 * k.val + l.val / 4)) / 128 = l.val % 4 := by omega
      have e2 : (q.val * 256 + t.val) / 2 = 128 * q.val + t.val / 2 := by omega
      have e3 : (128 * k.val + l.val) % 4 = l.val % 4 := by omega
      rw [e1, e2, e3]; omega
    · show 0 + 1 * (t.val % 2) = (q.val * 256 + t.val) % 2; omega
    · show 0 + 1 * ((128 * (l.val % 4) + (32 * k.val + l.val / 4)) % 128) = (128 * k.val + l.val) / 4
      have e1 : (128 * (l.val % 4) + (32 * k.val + l.val / 4)) % 128 = 32 * k.val + l.val / 4 := by omega
      have e2 : (128 * k.val + l.val) / 4 = 32 * k.val + l.val / 4 := by omega
      rw [e1, e2]; omega

/-- The output block read back after the four stores. -/
theorem mm_read (a4 : Memref sig .tc .vmem S128x512 .bf16) (f4 : Buf (Elt 𝔽) (a4.view.loc (c : Thread nD τ))) (y : S128x512.Idx) :
    a4.view.read (Elt 𝔽) (a4.view.writes (Elt 𝔽) f4 (mmL c a1 f1 M g)) y
      = mmG (a1.view.read (Elt 𝔽) f1) (M.view.read (Elt 𝔽) g) y := by
  refine View.read_writes_apply_of_pieces a4.view f4 (mmG (a1.view.read (Elt 𝔽) f1) (M.view.read (Elt 𝔽) g)) (mmL c a1 f1 M g) ?_ _ ?_
  · intro q hq x
    obtain ⟨k, -, rfl⟩ := List.mem_map.mp hq
    idx_vars x
    refine (mmPiece_apply c a1 f1 M g k x0 x1).trans (congrArg (mmG _ _) ?_)
    funext a; apply Fin.ext; fin_cases a
    · show x0.val = 0 + 1 * x0.val; omega
    · show 128 * k.val + x1.val = 128 * k.val + 1 * x1.val; omega
  · idx_vars y
    refine ⟨_, List.mem_map.mpr ⟨⟨y1.val / 128, by omega⟩, ?_, rfl⟩, (Rect.mem_set_unit (inb := inbO ⟨y1.val / 128, by omega⟩)).mpr fun a => ?_⟩
    · exact (by decide : ∀ k : Fin 4, k ∈ ([3, 2, 1, 0] : List (Fin 4))) _
    · fin_cases a
      · show 0 ≤ y0.val ∧ y0.val < 0 + 128; omega
      · show 128 * (y1.val / 128) ≤ y1.val ∧ y1.val < 128 * (y1.val / 128) + 128; omega

end

end Cert.KernelIdeal.Hand
-- ==== Proof.Spec.lean ====
/-
  The product the kernel is to compute, written over the whole arrays; a decoded scratch described by the block of rows it stands for; and
  the two facts the pipeline uses: a decode of a block makes such a scratch, and a product with such a scratch is a block of the result.
  The last block of rows reaches past the arrays' end, so both speak only of rows inside.
-/
module

public import proofs.«01_k».proof.Proof.DecodeValue
public import proofs.«01_k».proof.Proof.Matmul

@[expose] public section

set_option maxRecDepth 16384

noncomputable section

namespace Cert.KernelIdeal.Hand

open Cert.KernelIdeal Cert.KernelIdeal.Gen
open Idealize.ShloMosaic Idealize.ShloMosaic.TcCoe

local notation "𝔽" => Idealize.ShloMosaic.Ideal

variable (X : S128x3840.Idx → EReal) (C : S28288x1920.Idx → BitVec 8) (S : S28288x120.Idx → BitVec 8)

/-- The weight at row `n`, column `k`: nibble `k % 2` of code byte `k / 2`, times the scale of the column's block of 32. -/
def wv (n : Fin 28288) (k : Fin 3840) : EReal :=
  nibVal (nib ⟨k.val % 2, by omega⟩ (C (ix2 n ⟨k.val / 2, by omega⟩))) * sclVal (S (ix2 n ⟨k.val / 32, by omega⟩))

/-- The product. -/
def outG (i : S128x28288.Idx) : EReal := ∑ k : Fin 3840, X (ix2 (i 0) k) * wv C S (i 1) k

/-- The staged codes are block `b` of the rows, on the rows inside the array. -/
def CodesAt (b : ℕ) (B : S512x1920.Idx → BitVec 8) : Prop :=
  ∀ (i : Fin 512) (k : Fin 1920) (h : 512 * b + i.val < 28288), B (ix2 i k) = C (ix2 ⟨512 * b + i.val, h⟩ k)

/-- The staged scales are. -/
def ScalesAt (b : ℕ) (B : S512x120.Idx → BitVec 8) : Prop :=
  ∀ (i : Fin 512) (k : Fin 120) (h : 512 * b + i.val < 28288), B (ix2 i k) = S (ix2 ⟨512 * b + i.val, h⟩ k)

/-- A scratch stands for block `b` of the weights. -/
def Good (b : ℕ) (w : S7680x2x128.Idx → EReal) : Prop :=
  ∀ (r : Fin 7680) (p : Fin 2) (l : Fin 128) (h : 512 * b + (4 * l.val + r.val % 4) < 28288),
    w (ix3 r p l) = wv C S ⟨512 * b + (4 * l.val + r.val % 4), h⟩ ⟨2 * (r.val / 4) + p.val, by omega⟩

variable {X C S}

/-- Decoding block `b` makes a scratch that stands for it. -/
theorem good_of_dec {b : ℕ} (c : Dev nD) (a2 : Memref sig .tc .vmem S512x1920 .i8) (f2 : Buf (Elt 𝔽) (a2.view.loc (c : Thread nD τ)))
    (a3 : Memref sig .tc .vmem S512x120 .i8) (f3 : Buf (Elt 𝔽) (a3.view.loc (c : Thread nD τ)))
    (M : Memref sig .tc .vmem S7680x2x128 .bf16) (g : Buf (Elt 𝔽) (M.view.loc (c : Thread nD τ)))
    (hC : CodesAt C b (a2.view.read (Elt 𝔽) f2)) (hS : ScalesAt S b (a3.view.read (Elt 𝔽) f3)) :
    Good C S b (M.view.read (Elt 𝔽) (M.view.writes (Elt 𝔽) g (decL c a2 f2 a3 f3))) := fun r p l h => by
  rw [dec_read, hC _ _ h, hS _ _ h]
  unfold wv
  have e1 : (⟨(2 * (r.val / 4) + p.val) % 2, by omega⟩ : Fin 2) = p := Fin.ext (by show (2 * (r.val / 4) + p.val) % 2 = p.val; omega)
  have e2 : (⟨(2 * (r.val / 4) + p.val) / 2, by omega⟩ : Fin 1920) = ⟨r.val / 4, by omega⟩ :=
    Fin.ext (by show (2 * (r.val / 4) + p.val) / 2 = r.val / 4; omega)
  have e3 : (⟨(2 * (r.val / 4) + p.val) / 32, by omega⟩ : Fin 120) = ⟨r.val / 64, by omega⟩ :=
    Fin.ext (by show (2 * (r.val / 4) + p.val) / 32 = r.val / 64; omega)
  exact Ideal.mul_congr (congrArg nibVal (congrArg₂ nib e1.symm (congrArg (fun q => C (ix2 _ q)) e2.symm)))
    (congrArg sclVal (congrArg (fun q => S (ix2 _ q)) e3.symm))

/-- The product with a scratch that stands for block `b` is block `b` of the result. -/
theorem mmG_good {b : ℕ} {w : S7680x2x128.Idx → EReal} (hw : Good C S b w) (m : Fin 128) (j : Fin 512) (h : 512 * b + j.val < 28288) :
    mmG X w (ix2 m j) = outG X C S (ix2 m ⟨512 * b + j.val, h⟩) := by
  unfold mmG outG
  refine Finset.sum_congr rfl fun k _ => Ideal.mul_congr rfl ?_
  refine (hw ⟨4 * (k.val / 2) + j.val % 4, by omega⟩ ⟨k.val % 2, by omega⟩ ⟨j.val / 4, by omega⟩
    (by show 512 * b + (4 * (j.val / 4) + (4 * (k.val / 2) + j.val % 4) % 4) < 28288; omega)).trans ?_
  refine congrArg₂ (wv C S) (Fin.ext ?_) (Fin.ext ?_)
  · show 512 * b + (4 * (j.val / 4) + (4 * (k.val / 2) + j.val % 4) % 4) = 512 * b + j.val; omega
  · show 2 * ((4 * (k.val / 2) + j.val % 4) / 4) + k.val % 2 = k.val; omega

end Cert.KernelIdeal.Hand
-- ==== Proof.IdealRun.lean ====
/-
  The pipeline of `KernelIdeal`: which of the body's four courses a grid point takes, the blocks its input windows hold, and what
  owning a staged block means. The last code and scale blocks reach past their arrays' end.
-/
module

public import proofs.«01_k».proof.Proof.IdealFrame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- Every grid point takes exactly one of the body's four courses. -/
theorem cases0 : ∀ i : grid0.Coords,
    (cond1 i = 1#1 ∧ ¬ k0_cond2 i = 1#1 ∧ ¬ k0_cond3 i = 1#1 ∧ ¬ k0_cond4 i = 1#1)
    ∨ (¬ cond1 i = 1#1 ∧ k0_cond2 i = 1#1 ∧ ¬ k0_cond3 i = 1#1 ∧ ¬ k0_cond4 i = 1#1)
    ∨ (¬ cond1 i = 1#1 ∧ ¬ k0_cond2 i = 1#1 ∧ k0_cond3 i = 1#1 ∧ ¬ k0_cond4 i = 1#1)
    ∨ (¬ cond1 i = 1#1 ∧ ¬ k0_cond2 i = 1#1 ∧ ¬ k0_cond3 i = 1#1 ∧ k0_cond4 i = 1#1) := by
  decide +kernel

/-! ## The staged blocks -/

/-- The code and scale blocks as staged, filled past the array's end with a byte nothing reads. -/
def codeBlk (c : Dev nD) (t : Fin cfg0.N) : S512x1920.Idx → Elt F .i8 :=
  win0_1.fill (grid0.coords t) (fun _ => Classical.arbitrary _) (iblk m c 1 t)
def scaleBlk (c : Dev nD) (t : Fin cfg0.N) : S512x120.Idx → Elt F .i8 :=
  win0_2.fill (grid0.coords t) (fun _ => Classical.arbitrary _) (iblk m c 2 t)

theorem clip_1 : ∀ t t' : Fin cfg0.N, win0_1.index t = win0_1.index t' → win0_1.clip (grid0.coords t) = win0_1.clip (grid0.coords t') := by
  decide +kernel
theorem clip_2 : ∀ t t' : Fin cfg0.N, win0_2.index t = win0_2.index t' → win0_2.clip (grid0.coords t) = win0_2.clip (grid0.coords t') := by
  decide +kernel

/-! ## Owning a staged block -/

theorem defs₀_row (t : Fin cfg0.N) : defs₀ (F := F) .tc cfg0.body (cfg0.bodyArgs t (cfg0.slots t)) = bodyAt0 t := by
  unfold defs₀; rw [Defs.onTc_tc]

theorem owns_whole_pt (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns; rw [h.set_eq_univ]

theorem owns_staged0 (c : Dev nD) (s : Fin 1) (X : S128x3840.Idx → Elt F .bf16) :
    (owns (c : Thread nD τ) (stage0_0 s) fullShare X : sProp 𝕄) = iprop(∃ f, ⌜(stage0_0 s).view.read (Elt F) f = X⌝ ∗ pt c (stage0_0 s) f) :=
  owns_whole_pt c _ (hstage0_0 _) X
theorem owns_staged1 (c : Dev nD) (s : Fin 2) (X : S512x1920.Idx → Elt F .i8) :
    (owns (c : Thread nD τ) (stage0_1 s) fullShare X : sProp 𝕄) = iprop(∃ f, ⌜(stage0_1 s).view.read (Elt F) f = X⌝ ∗ pt c (stage0_1 s) f) :=
  owns_whole_pt c _ (hstage0_1 _) X
theorem owns_staged2 (c : Dev nD) (s : Fin 2) (X : S512x120.Idx → Elt F .i8) :
    (owns (c : Thread nD τ) (stage0_2 s) fullShare X : sProp 𝕄) = iprop(∃ f, ⌜(stage0_2 s).view.read (Elt F) f = X⌝ ∗ pt c (stage0_2 s) f) :=
  owns_whole_pt c _ (hstage0_2 _) X
theorem owns_staged3 (c : Dev nD) (s : Fin 2) (X : S128x512.Idx → Elt F .bf16) :
    (owns (c : Thread nD τ) (stage0_3 s) fullShare X : sProp 𝕄) = iprop(∃ f, ⌜(stage0_3 s).view.read (Elt F) f = X⌝ ∗ pt c (stage0_3 s) f) :=
  owns_whole_pt c _ (hstage0_3 _) X

end Cert.KernelIdeal.Hand
end
-- ==== Proof.Blocks.lean ====
/-
  The pipeline's blocks at the 57 grid points: which block each window reads or writes, how many of its rows or columns lie inside the
  array, and a staged input read at an element inside. Which course the body takes at each point.
-/
module

public import proofs.«01_k».proof.Proof.Spec
public import proofs.«01_k».proof.Proof.IdealRun
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe

local notation "𝔽" => Idealize.ShloMosaic.Ideal

/-! ## The windows -/

theorem index_1 : ∀ t : Fin cfg0.N, win0_1.index t 0 = min t.val 55 ∧ win0_1.index t 1 = 0
    ∧ win0_1.xsize (grid0.coords t) 0 = min 512 (28288 - 512 * min t.val 55) ∧ win0_1.xsize (grid0.coords t) 1 = 1920 := by decide +kernel
theorem index_2 : ∀ t : Fin cfg0.N, win0_2.index t 0 = min t.val 55 ∧ win0_2.index t 1 = 0
    ∧ win0_2.xsize (grid0.coords t) 0 = min 512 (28288 - 512 * min t.val 55) ∧ win0_2.xsize (grid0.coords t) 1 = 120 := by decide +kernel
theorem index_3 : ∀ t : Fin cfg0.N, win0_3.index t 0 = 0 ∧ win0_3.index t 1 = t.val - 1
    ∧ win0_3.xsize (grid0.coords t) 0 = 128 ∧ win0_3.xsize (grid0.coords t) 1 = min 512 (28288 - 512 * (t.val - 1)) := by decide +kernel

/-- Staged codes, at an element inside the array, are the array's. -/
theorem codes_at (C : S28288x1920.Idx → BitVec 8) (t : Fin cfg0.N) (d : S512x1920.Idx → BitVec 8) :
    CodesAt C (min t.val 55) (win0_1.fill (grid0.coords t) d ((win0_1.blk t).view.read (Elt 𝔽) C)) := fun i k h => by
  obtain ⟨i0, i1, x0, x1⟩ := index_1 t
  have hm : win0_1.moved (grid0.coords t) (ix2 i k) = true := (win0_1.moved_iff _ _).mpr fun a => by
    fin_cases a
    · show i.val < win0_1.xsize (grid0.coords t) 0; rw [x0]; omega
    · show k.val < win0_1.xsize (grid0.coords t) 1; rw [x1]; omega
  unfold Pipeline.Window.fill
  rw [dif_pos hm]
  refine congrArg C (funext fun a => Fin.ext ?_)
  refine (win0_1.rect_emb_val t _ a).trans ?_
  fin_cases a
  · show win0_1.index t 0 * 512 + i.val = 512 * min t.val 55 + i.val; rw [i0]; omega
  · show win0_1.index t 1 * 1920 + k.val = k.val; rw [i1]; omega

/-- Staged scales likewise. -/
theorem scales_at (S : S28288x120.Idx → BitVec 8) (t : Fin cfg0.N) (d : S512x120.Idx → BitVec 8) :
    ScalesAt S (min t.val 55) (win0_2.fill (grid0.coords t) d ((win0_2.blk t).view.read (Elt 𝔽) S)) := fun i k h => by
  obtain ⟨i0, i1, x0, x1⟩ := index_2 t
  have hm : win0_2.moved (grid0.coords t) (ix2 i k) = true := (win0_2.moved_iff _ _).mpr fun a => by
    fin_cases a
    · show i.val < win0_2.xsize (grid0.coords t) 0; rw [x0]; omega
    · show k.val < win0_2.xsize (grid0.coords t) 1; rw [x1]; omega
  unfold Pipeline.Window.fill
  rw [dif_pos hm]
  refine congrArg S (funext fun a => Fin.ext ?_)
  refine (win0_2.rect_emb_val t _ a).trans ?_
  fin_cases a
  · show win0_2.index t 0 * 512 + i.val = 512 * min t.val 55 + i.val; rw [i0]; omega
  · show win0_2.index t 1 * 120 + k.val = k.val; rw [i1]; omega

/-- The written-back part of an output buffer is a block of the result if its elements inside the array are the result's. -/
theorem out_cut (G : S128x28288.Idx → EReal) (t : Fin cfg0.N) (Y : S128x512.Idx → EReal)
    (hY : ∀ (m : Fin 128) (j : Fin 512) (h : 512 * (t.val - 1) + j.val < 28288), Y (ix2 m j) = G (ix2 m ⟨512 * (t.val - 1) + j.val, h⟩)) :
    win0_3.cut (grid0.coords t) Y = (win0_3.blk t).view.read (Elt 𝔽) G := by
  obtain ⟨i0, i1, x0, x1⟩ := index_3 t
  funext y
  have h0 : (y 0).val < 128 := Nat.lt_of_lt_of_eq (y 0).isLt x0
  have h1 : (y 1).val < min 512 (28288 - 512 * (t.val - 1)) := Nat.lt_of_lt_of_eq (y 1).isLt x1
  have hN : t.val < 57 := t.isLt
  have e : win0_3.xinj (grid0.coords t) y = ix2 ⟨(y 0).val, h0⟩ ⟨(y 1).val, by omega⟩ := by
    funext a; fin_cases a <;> rfl
  show Y (win0_3.xinj (grid0.coords t) y) = _
  rw [e]
  refine (hY _ _ (by show 512 * (t.val - 1) + (y 1).val < 28288; omega)).trans ?_
  refine congrArg G (funext fun a => Fin.ext ?_)
  refine Eq.trans ?_ (win0_3.rect_emb_val t y a).symm
  fin_cases a
  · show (y 0).val = win0_3.index t 0 * 128 + (y 0).val; rw [i0]; omega
  · show 512 * (t.val - 1) + (y 1).val = win0_3.index t 1 * 512 + (y 1).val; rw [i1]; omega

theorem covers_3 : win0_3.Covers := by decide +kernel

/-! ## The body's courses -/

/-- Nothing is stored to the output at the first point, nor written back; at every other point something is. -/
theorem idle_3 : ∀ t : Fin cfg0.N, (cfg0.idle 3 (grid0.coords t) = (decide (t.val = 0))) ∧ (t.val = 0 → (cfg0.win 3).flush t = false) := by
  decide +kernel

/-- The first point decodes only. -/
theorem course_first : ∀ t : Fin cfg0.N, t.val = 0 →
    cond1 (grid0.coords t) = 1#1 ∧ ¬ k0_cond2 (grid0.coords t) = 1#1 ∧ ¬ k0_cond3 (grid0.coords t) = 1#1 ∧ ¬ k0_cond4 (grid0.coords t) = 1#1 := by
  decide +kernel
/-- An odd point decodes into the second scratch and multiplies the first. -/
theorem course_odd : ∀ t : Fin cfg0.N, t.val % 2 = 1 →
    ¬ cond1 (grid0.coords t) = 1#1 ∧ k0_cond2 (grid0.coords t) = 1#1 ∧ ¬ k0_cond3 (grid0.coords t) = 1#1 ∧ ¬ k0_cond4 (grid0.coords t) = 1#1 := by
  decide +kernel
/-- An even point inside decodes into the first scratch and multiplies the second. -/
theorem course_even : ∀ t : Fin cfg0.N, t.val % 2 = 0 ∧ t.val ≠ 0 ∧ t.val < 56 →
    ¬ cond1 (grid0.coords t) = 1#1 ∧ ¬ k0_cond2 (grid0.coords t) = 1#1 ∧ k0_cond3 (grid0.coords t) = 1#1 ∧ ¬ k0_cond4 (grid0.coords t) = 1#1 := by
  decide +kernel
/-- The last point multiplies only. -/
theorem course_last : ∀ t : Fin cfg0.N, t.val = 56 →
    ¬ cond1 (grid0.coords t) = 1#1 ∧ ¬ k0_cond2 (grid0.coords t) = 1#1 ∧ ¬ k0_cond3 (grid0.coords t) = 1#1 ∧ k0_cond4 (grid0.coords t) = 1#1 := by
  decide +kernel

end Cert.KernelIdeal.Hand
-- ==== Proof.IdealValue.lean ====
/-
  The four courses of the body, with what they leave: a decoded scratch holds the fifteen pieces of `decL`, the output block the four of
  `mmL`, and every other buffer what it held.
-/
module

public import proofs.«01_k».proof.Proof.DecodeValue
public import proofs.«01_k».proof.Proof.Matmul
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝔽" => Idealize.ShloMosaic.Ideal
local notation "𝕄" => MT nD τ sig Unit (Elt 𝔽) ℕ (UR sig nD τ) ℕ

set_option maxHeartbeats 2000000 in
/-- The first point: the weights' block decoded into the first scratch, nothing multiplied. -/
theorem valFirst (c : Dev nD) (i : grid0.Coords) (h1 : cond1 i = 1#1) (h2 : ¬ k0_cond2 i = 1#1) (h3 : ¬ k0_cond3 i = 1#1) (h4 : ¬ k0_cond4 i = 1#1)
    (a1 : Memref sig .tc .vmem S128x3840 .bf16) (ha1 : a1.IsWhole)
    (a2 : Memref sig .tc .vmem S512x1920 .i8) (ha2 : a2.IsWhole)
    (a3 : Memref sig .tc .vmem S512x120 .i8) (ha3 : a3.IsWhole)
    (a4 : Memref sig .tc .vmem S128x512 .bf16) (ha4 : a4.IsWhole)
    (f1 : Buf (Elt 𝔽) (a1.view.loc (c : Thread nD τ))) (f2 : Buf (Elt 𝔽) (a2.view.loc (c : Thread nD τ)))
    (f3 : Buf (Elt 𝔽) (a3.view.loc (c : Thread nD τ))) (f4 : Buf (Elt 𝔽) (a4.view.loc (c : Thread nD τ)))
    (g0 : Buf (Elt 𝔽) (w0M.view.loc (c : Thread nD τ))) (g1 : Buf (Elt 𝔽) (w1M.view.loc (c : Thread nD τ)))
    (gs : Buf (Elt 𝔽) (scM.view.loc (c : Thread nD τ))) (K : PUnit → sProp 𝕄) :
    iprop(pt c a1 f1 ∗ pt c a2 f2 ∗ pt c a3 f3 ∗ pt c a4 f4 ∗ pt c w0M g0 ∗ pt c w1M g1 ∗ pt c scM gs
        ∗ (iprop(pt c a1 f1 ∗ pt c a2 f2 ∗ pt c a3 f3 ∗ pt c a4 f4
            ∗ pt c w0M (w0M.view.writes (Elt 𝔽) g0 (decL c a2 f2 a3 f3)) ∗ pt c w1M g1 ∗ (∃ g, pt c scM g)) -∗ K ⟨⟩))
      ⊢ wp frame (wpE (defs₀ (F := 𝔽)) Variants.none c none) Set.univ
          (cc0_mxfp4_linear i a1 ha1 a2 ha2 a3 ha3 a4 ha4 w0M (Memref.isWhole_whole _) w1M (Memref.isWhole_whole _) scM (Memref.isWhole_whole _)) K := by
  simp only [cc0_mxfp4_linear_eq_skeleton]; unfold cc0_mxfp4_linear_skel
  iintro ⟨H1, H2, H3, H4, G0, G1, GS, Hk⟩
  sl_exec_parts
  sl_step
  iapply Hk
  isplitl [H1]; · iexact H1
  isplitl [H2]; · iexact H2
  isplitl [H3]; · iexact H3
  isplitl [H4]; · iexact H4
  isplitl [G0]; · iexact G0
  isplitl [G1]; · iexact G1
  iexists _; iexact GS

set_option maxHeartbeats 2000000 in
/-- An odd point inside: a block decoded into the second scratch, the first one multiplied into the output. -/
theorem valOdd (c : Dev nD) (i : grid0.Coords) (h1 : ¬ cond1 i = 1#1) (h2 : k0_cond2 i = 1#1) (h3 : ¬ k0_cond3 i = 1#1) (h4 : ¬ k0_cond4 i = 1#1)
    (a1 : Memref sig .tc .vmem S128x3840 .bf16) (ha1 : a1.IsWhole)
    (a2 : Memref sig .tc .vmem S512x1920 .i8) (ha2 : a2.IsWhole)
    (a3 : Memref sig .tc .vmem S512x120 .i8) (ha3 : a3.IsWhole)
    (a4 : Memref sig .tc .vmem S128x512 .bf16) (ha4 : a4.IsWhole)
    (f1 : Buf (Elt 𝔽) (a1.view.loc (c : Thread nD τ))) (f2 : Buf (Elt 𝔽) (a2.view.loc (c : Thread nD τ)))
    (f3 : Buf (Elt 𝔽) (a3.view.loc (c : Thread nD τ))) (f4 : Buf (Elt 𝔽) (a4.view.loc (c : Thread nD τ)))
    (g0 : Buf (Elt 𝔽) (w0M.view.loc (c : Thread nD τ))) (g1 : Buf (Elt 𝔽) (w1M.view.loc (c : Thread nD τ)))
    (gs : Buf (Elt 𝔽) (scM.view.loc (c : Thread nD τ))) (K : PUnit → sProp 𝕄) :
    iprop(pt c a1 f1 ∗ pt c a2 f2 ∗ pt c a3 f3 ∗ pt c a4 f4 ∗ pt c w0M g0 ∗ pt c w1M g1 ∗ pt c scM gs
        ∗ (iprop(pt c a1 f1 ∗ pt c a2 f2 ∗ pt c a3 f3 ∗ pt c a4 (a4.view.writes (Elt 𝔽) f4 (mmL c a1 f1 w0M g0))
            ∗ pt c w0M g0 ∗ pt c w1M (w1M.view.writes (Elt 𝔽) g1 (decL c a2 f2 a3 f3)) ∗ (∃ g, pt c scM g)) -∗ K ⟨⟩))
      ⊢ wp frame (wpE (defs₀ (F := 𝔽)) Variants.none c none) Set.univ
          (cc0_mxfp4_linear i a1 ha1 a2 ha2 a3 ha3 a4 ha4 w0M (Memref.isWhole_whole _) w1M (Memref.isWhole_whole _) scM (Memref.isWhole_whole _)) K := by
  simp only [cc0_mxfp4_linear_eq_skeleton]; unfold cc0_mxfp4_linear_skel
  iintro ⟨H1, H2, H3, H4, G0, G1, GS, Hk⟩
  sl_exec_parts
  sl_step
  iapply Hk
  isplitl [H1]; · iexact H1
  isplitl [H2]; · iexact H2
  isplitl [H3]; · iexact H3
  isplitl [H4]; · iexact H4
  isplitl [G0]; · iexact G0
  isplitl [G1]; · iexact G1
  iexists _; iexact GS

set_option maxHeartbeats 2000000 in
/-- An even point inside: a block decoded into the first scratch, the second one multiplied into the output. -/
theorem valEven (c : Dev nD) (i : grid0.Coords) (h1 : ¬ cond1 i = 1#1) (h2 : ¬ k0_cond2 i = 1#1) (h3 : k0_cond3 i = 1#1) (h4 : ¬ k0_cond4 i = 1#1)
    (a1 : Memref sig .tc .vmem S128x3840 .bf16) (ha1 : a1.IsWhole)
    (a2 : Memref sig .tc .vmem S512x1920 .i8) (ha2 : a2.IsWhole)
    (a3 : Memref sig .tc .vmem S512x120 .i8) (ha3 : a3.IsWhole)
    (a4 : Memref sig .tc .vmem S128x512 .bf16) (ha4 : a4.IsWhole)
    (f1 : Buf (Elt 𝔽) (a1.view.loc (c : Thread nD τ))) (f2 : Buf (Elt 𝔽) (a2.view.loc (c : Thread nD τ)))
    (f3 : Buf (Elt 𝔽) (a3.view.loc (c : Thread nD τ))) (f4 : Buf (Elt 𝔽) (a4.view.loc (c : Thread nD τ)))
    (g0 : Buf (Elt 𝔽) (w0M.view.loc (c : Thread nD τ))) (g1 : Buf (Elt 𝔽) (w1M.view.loc (c : Thread nD τ)))
    (gs : Buf (Elt 𝔽) (scM.view.loc (c : Thread nD τ))) (K : PUnit → sProp 𝕄) :
    iprop(pt c a1 f1 ∗ pt c a2 f2 ∗ pt c a3 f3 ∗ pt c a4 f4 ∗ pt c w0M g0 ∗ pt c w1M g1 ∗ pt c scM gs
        ∗ (iprop(pt c a1 f1 ∗ pt c a2 f2 ∗ pt c a3 f3 ∗ pt c a4 (a4.view.writes (Elt 𝔽) f4 (mmL c a1 f1 w1M g1))
            ∗ pt c w0M (w0M.view.writes (Elt 𝔽) g0 (decL c a2 f2 a3 f3)) ∗ pt c w1M g1 ∗ (∃ g, pt c scM g)) -∗ K ⟨⟩))
      ⊢ wp frame (wpE (defs₀ (F := 𝔽)) Variants.none c none) Set.univ
          (cc0_mxfp4_linear i a1 ha1 a2 ha2 a3 ha3 a4 ha4 w0M (Memref.isWhole_whole _) w1M (Memref.isWhole_whole _) scM (Memref.isWhole_whole _)) K := by
  simp only [cc0_mxfp4_linear_eq_skeleton]; unfold cc0_mxfp4_linear_skel
  iintro ⟨H1, H2, H3, H4, G0, G1, GS, Hk⟩
  sl_exec_parts
  sl_step
  iapply Hk
  isplitl [H1]; · iexact H1
  isplitl [H2]; · iexact H2
  isplitl [H3]; · iexact H3
  isplitl [H4]; · iexact H4
  isplitl [G0]; · iexact G0
  isplitl [G1]; · iexact G1
  iexists _; iexact GS

set_option maxHeartbeats 2000000 in
/-- The last point: the second scratch multiplied into the output, nothing decoded. -/
theorem valLast (c : Dev nD) (i : grid0.Coords) (h1 : ¬ cond1 i = 1#1) (h2 : ¬ k0_cond2 i = 1#1) (h3 : ¬ k0_cond3 i = 1#1) (h4 : k0_cond4 i = 1#1)
    (a1 : Memref sig .tc .vmem S128x3840 .bf16) (ha1 : a1.IsWhole)
    (a2 : Memref sig .tc .vmem S512x1920 .i8) (ha2 : a2.IsWhole)
    (a3 : Memref sig .tc .vmem S512x120 .i8) (ha3 : a3.IsWhole)
    (a4 : Memref sig .tc .vmem S128x512 .bf16) (ha4 : a4.IsWhole)
    (f1 : Buf (Elt 𝔽) (a1.view.loc (c : Thread nD τ))) (f2 : Buf (Elt 𝔽) (a2.view.loc (c : Thread nD τ)))
    (f3 : Buf (Elt 𝔽) (a3.view.loc (c : Thread nD τ))) (f4 : Buf (Elt 𝔽) (a4.view.loc (c : Thread nD τ)))
    (g0 : Buf (Elt 𝔽) (w0M.view.loc (c : Thread nD τ))) (g1 : Buf (Elt 𝔽) (w1M.view.loc (c : Thread nD τ)))
    (gs : Buf (Elt 𝔽) (scM.view.loc (c : Thread nD τ))) (K : PUnit → sProp 𝕄) :
    iprop(pt c a1 f1 ∗ pt c a2 f2 ∗ pt c a3 f3 ∗ pt c a4 f4 ∗ pt c w0M g0 ∗ pt c w1M g1 ∗ pt c scM gs
        ∗ (iprop(pt c a1 f1 ∗ pt c a2 f2 ∗ pt c a3 f3 ∗ pt c a4 (a4.view.writes (Elt 𝔽) f4 (mmL c a1 f1 w1M g1))
            ∗ pt c w0M g0 ∗ pt c w1M g1 ∗ (∃ g, pt c scM g)) -∗ K ⟨⟩))
      ⊢ wp frame (wpE (defs₀ (F := 𝔽)) Variants.none c none) Set.univ
          (cc0_mxfp4_linear i a1 ha1 a2 ha2 a3 ha3 a4 ha4 w0M (Memref.isWhole_whole _) w1M (Memref.isWhole_whole _) scM (Memref.isWhole_whole _)) K := by
  simp only [cc0_mxfp4_linear_eq_skeleton]; unfold cc0_mxfp4_linear_skel
  iintro ⟨H1, H2, H3, H4, G0, G1, GS, Hk⟩
  sl_exec_parts
  sl_step
  iapply Hk
  isplitl [H1]; · iexact H1
  isplitl [H2]; · iexact H2
  isplitl [H3]; · iexact H3
  isplitl [H4]; · iexact H4
  isplitl [G0]; · iexact G0
  isplitl [G1]; · iexact G1
  iexists _; iexact GS

end Cert.KernelIdeal.Hand
end
-- ==== Proof.ValueRun.lean ====
/-
  The value of the run: an invariant that says which block of the weights each scratch stands for, the body's obligation with it, and the
  result array after the last write-back.
-/
module

public import proofs.«01_k».proof.Proof.Blocks
public import proofs.«01_k».proof.Proof.IdealValue

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

local notation "𝔽" => Idealize.ShloMosaic.Ideal
local notation "𝕄" => MT nD τ sig Unit (Elt 𝔽) ℕ (UR sig nD τ) ℕ

/-! ## The invariant -/

section
variable (C : S28288x1920.Idx → BitVec 8) (S : S28288x120.Idx → BitVec 8)

/-- Before point `n`, what is known of the first scratch: after an even point (but the last) it stands for that point's block. -/
def Inv0 (n : ℕ) (w : S7680x2x128.Idx → EReal) : Prop := n % 2 = 1 → n ≤ 56 → Good C S (n - 1) w
/-- And of the second: after an odd point it stands for that point's block. -/
def Inv1 (n : ℕ) (w : S7680x2x128.Idx → EReal) : Prop := n % 2 = 0 → 0 < n → Good C S (n - 1) w

/-- The body at any point, with what it establishes. -/
theorem valAny (X : S128x3840.Idx → EReal) (c : Dev nD) (t : Fin cfg0.N)
    (a1 : Memref sig .tc .vmem S128x3840 .bf16) (ha1 : a1.IsWhole)
    (a2 : Memref sig .tc .vmem S512x1920 .i8) (ha2 : a2.IsWhole)
    (a3 : Memref sig .tc .vmem S512x120 .i8) (ha3 : a3.IsWhole)
    (a4 : Memref sig .tc .vmem S128x512 .bf16) (ha4 : a4.IsWhole)
    (f1 : Buf (Elt 𝔽) (a1.view.loc (c : Thread nD τ))) (f2 : Buf (Elt 𝔽) (a2.view.loc (c : Thread nD τ)))
    (f3 : Buf (Elt 𝔽) (a3.view.loc (c : Thread nD τ))) (f4 : Buf (Elt 𝔽) (a4.view.loc (c : Thread nD τ)))
    (g0 : Buf (Elt 𝔽) (w0M.view.loc (c : Thread nD τ))) (g1 : Buf (Elt 𝔽) (w1M.view.loc (c : Thread nD τ)))
    (gs : Buf (Elt 𝔽) (scM.view.loc (c : Thread nD τ)))
    (hX : a1.view.read (Elt 𝔽) f1 = X) (hC : CodesAt C (min t.val 55) (a2.view.read (Elt 𝔽) f2)) (hS : ScalesAt S (min t.val 55) (a3.view.read (Elt 𝔽) f3))
    (h0 : Inv0 C S t.val (w0M.view.read (Elt 𝔽) g0)) (h1 : Inv1 C S t.val (w1M.view.read (Elt 𝔽) g1)) (K : PUnit → sProp 𝕄) :
    iprop(pt c a1 f1 ∗ pt c a2 f2 ∗ pt c a3 f3 ∗ pt c a4 f4 ∗ pt c w0M g0 ∗ pt c w1M g1 ∗ pt c scM gs
        ∗ (iprop(pt c a1 f1 ∗ pt c a2 f2 ∗ pt c a3 f3
            ∗ (∃ f, ⌜(t.val = 0 → f = f4) ∧ (t.val ≠ 0 → ∀ (m : Fin 128) (j : Fin 512) (h : 512 * (t.val - 1) + j.val < 28288),
                a4.view.read (Elt 𝔽) f (ix2 m j) = outG X C S (ix2 m ⟨512 * (t.val - 1) + j.val, h⟩))⌝ ∗ pt c a4 f)
            ∗ (∃ g, ⌜Inv0 C S (t.val + 1) (w0M.view.read (Elt 𝔽) g)⌝ ∗ pt c w0M g)
            ∗ (∃ g, ⌜Inv1 C S (t.val + 1) (w1M.view.read (Elt 𝔽) g)⌝ ∗ pt c w1M g) ∗ (∃ g, pt c scM g)) -∗ K ⟨⟩))
      ⊢ wp frame (wpE (defs₀ (F := 𝔽)) Variants.none c none) Set.univ
          (cc0_mxfp4_linear (grid0.coords t) a1 ha1 a2 ha2 a3 ha3 a4 ha4 w0M (Memref.isWhole_whole _) w1M (Memref.isWhole_whole _) scM (Memref.isWhole_whole _)) K := by
  have hN : t.val < 57 := t.isLt
  by_cases c0 : t.val = 0
  · obtain ⟨q1, q2, q3, q4⟩ := course_first t c0
    have hd : Good C S t.val (w0M.view.read (Elt 𝔽) (w0M.view.writes (Elt 𝔽) g0 (decL c a2 f2 a3 f3))) :=
      good_of_dec c a2 f2 a3 f3 w0M g0 (by rwa [show min t.val 55 = t.val by omega] at hC) (by rwa [show min t.val 55 = t.val by omega] at hS)
    iintro ⟨H1, H2, H3, H4, G0, G1, GS, Hk⟩
    iapply (valFirst c (grid0.coords t) q1 q2 q3 q4 a1 ha1 a2 ha2 a3 ha3 a4 ha4 f1 f2 f3 f4 g0 g1 gs K)
    isplitl [H1]; · iexact H1
    isplitl [H2]; · iexact H2
    isplitl [H3]; · iexact H3
    isplitl [H4]; · iexact H4
    isplitl [G0]; · iexact G0
    isplitl [G1]; · iexact G1
    isplitl [GS]; · iexact GS
    iintro ⟨H1, H2, H3, H4, G0, G1, GS⟩
    iapply Hk
    isplitl [H1]; · iexact H1
    isplitl [H2]; · iexact H2
    isplitl [H3]; · iexact H3
    isplitl [H4]
    · iexists f4; isplitr; · ipureintro; exact ⟨fun _ => rfl, fun h => absurd c0 h⟩
      iexact H4
    isplitl [G0]
    · iexists _; isplitr; swap; · iexact G0
      ipureintro; exact fun _ _ => hd
    isplitl [G1]
    · iexists g1; isplitr; · ipureintro; exact fun h _ => absurd h (by omega)
      iexact G1
    iexact GS
  by_cases c1 : t.val % 2 = 1
  · obtain ⟨q1, q2, q3, q4⟩ := course_odd t c1
    have hd : Good C S t.val (w1M.view.read (Elt 𝔽) (w1M.view.writes (Elt 𝔽) g1 (decL c a2 f2 a3 f3))) :=
      good_of_dec c a2 f2 a3 f3 w1M g1 (by rwa [show min t.val 55 = t.val by omega] at hC) (by rwa [show min t.val 55 = t.val by omega] at hS)
    iintro ⟨H1, H2, H3, H4, G0, G1, GS, Hk⟩
    iapply (valOdd c (grid0.coords t) q1 q2 q3 q4 a1 ha1 a2 ha2 a3 ha3 a4 ha4 f1 f2 f3 f4 g0 g1 gs K)
    isplitl [H1]; · iexact H1
    isplitl [H2]; · iexact H2
    isplitl [H3]; · iexact H3
    isplitl [H4]; · iexact H4
    isplitl [G0]; · iexact G0
    isplitl [G1]; · iexact G1
    isplitl [GS]; · iexact GS
    iintro ⟨H1, H2, H3, H4, G0, G1, GS⟩
    iapply Hk
    isplitl [H1]; · iexact H1
    isplitl [H2]; · iexact H2
    isplitl [H3]; · iexact H3
    isplitl [H4]
    · iexists _; isplitr; swap; · iexact H4
      ipureintro
      refine ⟨fun h => absurd h c0, fun _ m j h => ?_⟩
      rw [mm_read, hX]
      exact mmG_good (h0 c1 (by omega)) m j h
    isplitl [G0]
    · iexists g0; isplitr; · ipureintro; exact fun h _ => absurd h (by omega)
      iexact G0
    isplitl [G1]
    · iexists _; isplitr; swap; · iexact G1
      ipureintro; exact fun _ _ => hd
    iexact GS
  by_cases c2 : t.val < 56
  · obtain ⟨q1, q2, q3, q4⟩ := course_even t ⟨by omega, c0, c2⟩
    have hd : Good C S t.val (w0M.view.read (Elt 𝔽) (w0M.view.writes (Elt 𝔽) g0 (decL c a2 f2 a3 f3))) :=
      good_of_dec c a2 f2 a3 f3 w0M g0 (by rwa [show min t.val 55 = t.val by omega] at hC) (by rwa [show min t.val 55 = t.val by omega] at hS)
    iintro ⟨H1, H2, H3, H4, G0, G1, GS, Hk⟩
    iapply (valEven c (grid0.coords t) q1 q2 q3 q4 a1 ha1 a2 ha2 a3 ha3 a4 ha4 f1 f2 f3 f4 g0 g1 gs K)
    isplitl [H1]; · iexact H1
    isplitl [H2]; · iexact H2
    isplitl [H3]; · iexact H3
    isplitl [H4]; · iexact H4
    isplitl [G0]; · iexact G0
    isplitl [G1]; · iexact G1
    isplitl [GS]; · iexact GS
    iintro ⟨H1, H2, H3, H4, G0, G1, GS⟩
    iapply Hk
    isplitl [H1]; · iexact H1
    isplitl [H2]; · iexact H2
    isplitl [H3]; · iexact H3
    isplitl [H4]
    · iexists _; isplitr; swap; · iexact H4
      ipureintro
      refine ⟨fun h => absurd h c0, fun _ m j h => ?_⟩
      rw [mm_read, hX]
      exact mmG_good (h1 (by omega) (by omega)) m j h
    isplitl [G0]
    · iexists _; isplitr; swap; · iexact G0
      ipureintro; exact fun _ _ => hd
    isplitl [G1]
    · iexists g1; isplitr; · ipureintro; exact fun h _ => absurd h (by omega)
      iexact G1
    iexact GS
  · obtain ⟨q1, q2, q3, q4⟩ := course_last t (by omega)
    iintro ⟨H1, H2, H3, H4, G0, G1, GS, Hk⟩
    iapply (valLast c (grid0.coords t) q1 q2 q3 q4 a1 ha1 a2 ha2 a3 ha3 a4 ha4 f1 f2 f3 f4 g0 g1 gs K)
    isplitl [H1]; · iexact H1
    isplitl [H2]; · iexact H2
    isplitl [H3]; · iexact H3
    isplitl [H4]; · iexact H4
    isplitl [G0]; · iexact G0
    isplitl [G1]; · iexact G1
    isplitl [GS]; · iexact GS
    iintro ⟨H1, H2, H3, H4, G0, G1, GS⟩
    iapply Hk
    isplitl [H1]; · iexact H1
    isplitl [H2]; · iexact H2
    isplitl [H3]; · iexact H3
    isplitl [H4]
    · iexists _; isplitr; swap; · iexact H4
      ipureintro
      refine ⟨fun h => absurd h c0, fun _ m j h => ?_⟩
      rw [mm_read, hX]
      exact mmG_good (h1 (by omega) (by omega)) m j h
    isplitl [G0]
    · iexists g0; isplitr; · ipureintro; exact fun _ h => absurd h (by omega)
      iexact G0
    isplitl [G1]
    · iexists g1; isplitr; · ipureintro; exact fun h _ => absurd h (by omega)
      iexact G1
    iexact GS

end

/-! ## The proof data -/

variable (m : (ℓ : Loc nD τ sig) → Buf (Elt 𝔽) ℓ) (ρ : Dev nD → PrngReg)

/-- The codes and the scales as launched, and the activations as the host lays them out. -/
abbrev codesA (c : Dev nD) : S28288x1920.Idx → BitVec 8 := V m c main_arg1
abbrev scalesA (c : Dev nD) : S28288x120.Idx → BitVec 8 := V m c main_arg2
abbrev actsA (c : Dev nD) : S128x3840.Idx → EReal := V m c main_v0

/-- The result on core `c`. -/
def outA (c : Dev nD) : S128x28288.Idx → EReal := outG (actsA m c) (codesA m c) (scalesA m c)

/-- The invariant before point `n`. -/
def PhiV (c : Dev nD) (n : ℕ) : sProp 𝕄 :=
  iprop(((∃ g, ⌜Inv0 (codesA m c) (scalesA m c) n (w0M.view.read (Elt 𝔽) g)⌝ ∗ pt c w0M g)
    ∗ (∃ g, ⌜Inv1 (codesA m c) (scalesA m c) n (w1M.view.read (Elt 𝔽) g)⌝ ∗ pt c w1M g) ∗ (∃ g, pt c scM g)) ∗ ∃ r, prngReg c r)

/-- The output block a point leaves, filled past the array's end with zeros nothing reads. -/
def outBlk (c : Dev nD) (t : Fin cfg0.N) : S128x512.Idx → EReal :=
  win0_3.fill (grid0.coords t) (fun _ => (0 : EReal)) ((win0_3.blk t).view.read (Elt 𝔽) (outA m c))

/-- The proof data on core `c`: as the frame's, with the output named and the invariant kept. -/
def datsV (_ : Fin 1) (c : Dev nD) : Dat τ (Elt 𝔽) Unit ℕ (UR sig nD τ) ℕ cfg0 c where
  A w := V m c (Pipeline.arrRef spec0 w)
  after w t := match w with
    | ⟨0, _⟩ => iblk m c 0 t
    | ⟨1, _⟩ => codeBlk m c t
    | ⟨2, _⟩ => scaleBlk m c t
    | ⟨3, _⟩ => outBlk m c t
  Φ t := PhiV m c t.val
  q _ := fullShare
  owed _ := 0

theorem A_eqV (c : Dev nD) (w : Fin cfg0.W) : (datsV m 0 c).A w = V m c (Pipeline.arrRef spec0 w) := by dsimp only [datsV]

theorem beforeV_0 (c : Dev nD) (t : Fin cfg0.N) (d) : (datsV m 0 c).before 0 t d = iblk m c 0 t :=
  before0_0_of m (datsV m 0 c) rfl (fun _ => rfl) t d
theorem beforeV_1 (c : Dev nD) (t : Fin cfg0.N) (d) :
    (datsV m 0 c).before 1 t d = win0_1.fill (grid0.coords t) d (iblk m c 1 t) :=
  (datsV m 0 c).before_in_eq_fetched 1 rfl (fun _ => rfl) clip_1 (fun t => win0_1.cut_fill _ _ _) t d
theorem beforeV_2 (c : Dev nD) (t : Fin cfg0.N) (d) :
    (datsV m 0 c).before 2 t d = win0_2.fill (grid0.coords t) d (iblk m c 2 t) :=
  (datsV m 0 c).before_in_eq_fetched 2 rfl (fun _ => rfl) clip_2 (fun t => win0_2.cut_fill _ _ _) t d

/-- The activations' one block is the whole array. -/
theorem iblk_0 (c : Dev nD) (t : Fin cfg0.N) : iblk m c 0 t = actsA m c := by
  funext y
  refine congrArg (actsA m c) (funext fun a => Fin.ext ?_)
  refine (win0_0.rect_emb_val t y a).trans ?_
  fin_cases a
  · show 0 * 128 + (y 0).val = (y 0).val; omega
  · show 0 * 3840 + (y 1).val = (y 1).val; omega

/-! ## The body obligation -/

/-- The invariant starts as the scratches owned at anything, -/
theorem PhiV_in (c : Dev nD) : (Pipeline.ΦA spec0 c : sProp 𝕄) ⊢ (datsV m 0 c).Φ 0 := by
  rw [show (datsV m 0 c).Φ 0 = PhiV m c 0 from rfl]
  unfold Pipeline.ΦA PhiV
  rw [scopedRest0_eq]
  iintro ⟨⟨⟨%g0, G0⟩, ⟨%g1, G1⟩, GS⟩, Hg⟩
  isplitl [G0 G1 GS]
  · isplitl [G0]
    · iexists g0; isplitr; · ipureintro; exact fun h _ => absurd h (by decide)
      iexact G0
    isplitl [G1]
    · iexists g1; isplitr; · ipureintro; exact fun _ h => absurd h (by decide)
      iexact G1
    iexact GS
  iexact Hg

/-- and ends as that. -/
theorem PhiV_out (c : Dev nD) : (datsV m 0 c).Φ (Fin.last cfg0.N) ⊢ (Pipeline.ΦA spec0 c : sProp 𝕄) := by
  rw [show (datsV m 0 c).Φ (Fin.last cfg0.N) = PhiV m c cfg0.N from rfl]
  unfold Pipeline.ΦA PhiV
  rw [scopedRest0_eq]
  iintro ⟨⟨⟨%g0, -, G0⟩, ⟨%g1, -, G1⟩, GS⟩, Hg⟩
  isplitl [G0 G1 GS]
  · isplitl [G0]; · iexists g0; iexact G0
    isplitl [G1]; · iexists g1; iexact G1
    iexact GS
  iexact Hg

/-- The output buffer handed back: at the first point as found, at every other holding the point's block of the result. -/
theorem leaves_3 (c : Dev nD) (t : Fin cfg0.N) (f f' : Buf (Elt 𝔽) ((stage0_3 (cfg0.slots t 3)).view.loc (c : Thread nD τ)))
    (h0 : t.val = 0 → f' = f ∧ ∃ d, (stage0_3 (cfg0.slots t 3)).view.read (Elt 𝔽) f = (datsV m 0 c).before 3 t d)
    (h1 : t.val ≠ 0 → ∀ (i : Fin 128) (j : Fin 512) (h : 512 * (t.val - 1) + j.val < 28288),
      (stage0_3 (cfg0.slots t 3)).view.read (Elt 𝔽) f' (ix2 i j) = outA m c (ix2 i ⟨512 * (t.val - 1) + j.val, h⟩)) :
    (pt c (stage0_3 (cfg0.slots t 3)) f' : sProp 𝕄) ⊢ (datsV m 0 c).leaves 3 t := by
  unfold Dat.leaves
  by_cases ht : t.val = 0
  · rw [show cfg0.idle 3 (cfg0.grid.coords t) = true from (idle_3 t).1.trans (decide_eq_true ht), (idle_3 t).2 ht]
    obtain ⟨rfl, d, e⟩ := h0 ht
    simp only [owns_staged3]
    iintro H
    iexists d
    iexists f'; isplitr; · ipureintro; exact e
    iexact H
  · rw [show cfg0.idle 3 (cfg0.grid.coords t) = false from (idle_3 t).1.trans (decide_eq_false ht)]
    simp only [owns_staged3]
    iintro H
    iexists (stage0_3 (cfg0.slots t 3)).view.read (Elt 𝔽) f'
    iexists f'; isplitr; swap; · iexact H
    ipureintro
    rw [show (datsV m 0 c).after 3 t = outBlk m c t from rfl, outBlk]
    refine (win0_3.fill_congr_cut _ ?_).symm
    exact (out_cut _ t _ (h1 ht)).trans (win0_3.cut_fill _ _ _).symm

theorem body_obligationV (c : Dev nD) :
    BodyObligationLoose (datsV m 0 c) (defs₀ (F := 𝔽)) Variants.none () Set.univ := fun t => by
  have hback := leaves_3 m c t
  unfold Dat.leaves at hback
  simp only [owns_staged3] at hback
  rw [bigSep_W0, bigSep_W0, defs₀_row]
  simp only
  rw [show (datsV m 0 c).Φ t.succ = PhiV m c (t.val + 1) from rfl, show (datsV m 0 c).Φ t.castSucc = PhiV m c t.val from rfl,
    show (datsV m 0 c).owesAt () t.succ = (datsV m 0 c).owesAt () t.castSucc from rfl]
  unfold PhiV
  simp only [owns_staged0, owns_staged1, owns_staged2, owns_staged3]
  simp only [beforeV_0 m c t, beforeV_1 m c t, beforeV_2 m c t]
  iintro ⟨⟨⟨⟨%g0, %i0, G0⟩, ⟨%g1, %i1, G1⟩, ⟨%gs, GS⟩⟩, Hg⟩, Ho, ⟨%d0, H0⟩, ⟨%d1, H1⟩, ⟨%d2, H2⟩, ⟨%d3, H3⟩⟩
  icases H0 with ⟨%f0, %e0, H0⟩
  icases H1 with ⟨%f1, %e1, H1⟩
  icases H2 with ⟨%f2, %e2, H2⟩
  icases H3 with ⟨%f3, %e3, H3⟩
  iapply (valAny (codesA m c) (scalesA m c) (actsA m c) c t _ _ _ _ _ _ _ _ f0 f1 f2 f3 g0 g1 gs (e0.trans (iblk_0 m c t))
    (by rw [e1]; exact codes_at _ t d1) (by rw [e2]; exact scales_at _ t d2) i0 i1 _)
  isplitl [H0]; · iexact H0
  isplitl [H1]; · iexact H1
  isplitl [H2]; · iexact H2
  isplitl [H3]; · iexact H3
  isplitl [G0]; · iexact G0
  isplitl [G1]; · iexact G1
  isplitl [GS]; · iexact GS
  iintro ⟨H0, H1, H2, ⟨%f3', %e3', H3⟩, G0, G1, GS⟩
  isplitl [G0 G1 GS Hg]
  · isplitl [G0 G1 GS]
    · isplitl [G0]; · iexact G0
      isplitl [G1]; · iexact G1
      iexact GS
    iexact Hg
  isplitl [Ho]; · iexact Ho
  isplitl [H0]
  · iexists f0; isplitr; · ipureintro; exact e0
    iexact H0
  isplitl [H1]
  · iexists d1
    iexists f1; isplitr
    · ipureintro
      rw [show (datsV m 0 c).after 1 t = codeBlk m c t from rfl, codeBlk]
      exact e1.trans (congrArg _ (win0_1.cut_fill _ _ _).symm)
    iexact H1
  isplitl [H2]
  · iexists d2
    iexists f2; isplitr
    · ipureintro
      rw [show (datsV m 0 c).after 2 t = scaleBlk m c t from rfl, scaleBlk]
      exact e2.trans (congrArg _ (win0_2.cut_fill _ _ _).symm)
    iexact H2
  iapply (hback f3 f3' (fun h => ⟨e3'.1 h, d3, e3⟩) e3'.2)
  iexact H3

/-! ## The launch -/

/-- The result array after the last write-back. -/
theorem arrAt_out (c : Dev nD) : (datsV m 0 c).arrAt 3 cfg0.N = outA m c :=
  (datsV m 0 c).arrAt_eq_of_cover 3 (outA m c) (fun t _ => win0_3.cut_fill _ _ _)
    (fun i => Pipeline.Window.Covers.cover win0_3 covers_3 (Memref.isWhole_whole _) i)

-- the launch theorem's implicit arguments are found by unifying its conclusion with this statement
set_option backward.isDefEq.respectTransparency.types false in
/-- From any memory with zero counters, @main terminates on every weakly fair execution; the result array ends holding the product, the
    argument arrays what they held, and every semaphore counter at zero. -/
theorem run_value :
    θ_run defs (onTc (τ := τ) (main (F := 𝔽))) (s₀ m ρ) (fun r => (∀ c : Dev nD,
      r.2.mem ((c.tc : Thread nD τ).loc main_v1) = outA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  Pipeline.θ_run_frame_track (Q' := _) cfgs (datsV m) (0 : Fin 1) launch0 defs₀ Variants.none m ρ main
    (hbody := fun c => body_obligationV m c) (hshare := fun c => (datsV m 0 c).share_full fun _ => rfl)
    (howed := fun _ _ => rfl) (V := V m) (hmain := hmain m Variants.none) (hA := A_eqV m) (hin := PhiV_in m) (hout := PhiV_out m)
    (hQ' := fun r h => ⟨fun c => ⟨((h.1 c).1 3).trans (arrAt_out m c),
      ((h.1 c).2 main_arg0 (Pipeline.mem_restRefs_of main_arg0 (by decide) (by decide))).trans (V_main_arg0 m c),
      ((h.1 c).1 1).trans (((datsV m 0 c).arrAt_in 1 rfl _).trans ((A_eqV m c 1).trans (V_main_arg1 m c))),
      ((h.1 c).1 2).trans (((datsV m 0 c).arrAt_in 2 rfl _).trans ((A_eqV m c 2).trans (V_main_arg2 m c)))⟩, h.2⟩)

end Cert.KernelIdeal.Hand
end
-- ==== Proof.RefScalars.lean ====
/-
  The two scalars a weight is made of, as the reference writes them (a table of the sixteen four-bit codes; two to the power of the
  byte less 127, infinite at 255), equal to the kernel's (integer arithmetic on the code; the byte placed as the exponent of a
  bfloat16 pattern). Both hold for every byte.
-/
module

public import proofs.«01_k».proof.Proof.Spec

@[expose] public section

noncomputable section

namespace Cert.KernelIdeal.Hand

open Cert.KernelIdeal Cert.KernelIdeal.Gen
open Idealize.ShloMosaic Idealize.ShloMosaic.TcCoe

/-- Whether bit `m` (a mask) of the code is set. -/
def refBit (m v : BitVec 32) : BitVec 1 := IntOp.cmpi CmpIPredicate.ne (IntOp.andi v m) 0#32

/-- The reference's table: the magnitude of a code. -/
def refMag (v : BitVec 32) : EReal :=
  Scalar.select (refBit 4#32 v)
    (Scalar.select (refBit 2#32 v)
      (Scalar.select (refBit 1#32 v) (Ideal.ofBits .bf16 0x40C0#16 : EReal) (Ideal.ofBits .bf16 0x4080#16))
      (Scalar.select (refBit 1#32 v) (Ideal.ofBits .bf16 0x4040#16 : EReal) (Ideal.ofBits .bf16 0x4000#16)))
    (Scalar.select (refBit 2#32 v)
      (Scalar.select (refBit 1#32 v) (Ideal.ofBits .bf16 0x3FC0#16 : EReal) (Ideal.ofBits .bf16 0x3F80#16))
      (Scalar.select (refBit 1#32 v) (Ideal.ofBits .bf16 0x3F00#16 : EReal) (Ideal.ofBits .bf16 0x0000#16)))

/-- The reference's value of a code. -/
def refNib (v : BitVec 32) : EReal := Scalar.select (refBit 8#32 v) (-refMag v) (refMag v)

/-- The byte less 127, as a signed word. -/
def refExp (e : BitVec 8) : BitVec 32 := IntOp.subi (e.setWidth 32) 127#32

/-- The reference's value of a scale byte. -/
def refScl (e : BitVec 8) : EReal :=
  Scalar.select (IntOp.cmpi CmpIPredicate.sgt (refExp e) 127#32) (Ideal.ofBits .f32 0x7F800000#32 : EReal)
    (Ideal.pow (Ideal.ofBits .f32 0x40000000#32) (FloatOps.sitofp (F := Ideal) FTy.f32 (refExp e) : EReal))

/-! The constants. -/

/-- A pattern without sign, read from its exponent and significand fields. -/
theorem ieee_pos (e m : ℕ) {w : ℕ} (b : BitVec w) (ex fr : ℕ) (hs : (b.extractLsb' (e + m) 1 == 1#1) = false)
    (hx : (b.extractLsb' m e).toNat = ex) (hf : (b.extractLsb' 0 m).toNat = fr) :
    Ideal.ieee e m b = if ex = 2 ^ e - 1 then (if fr = 0 then ⊤ else ⊥)
      else if ex = 0 then (((fr : ℝ) * (2 : ℝ) ^ (1 - (2 ^ (e - 1) - 1) - m : ℤ) : ℝ) : EReal)
      else ((((2 ^ m + fr : ℕ) : ℝ) * (2 : ℝ) ^ ((ex : ℤ) - (2 ^ (e - 1) - 1) - m) : ℝ) : EReal) := by
  unfold Ideal.ieee
  simp only [hs, hx, hf, Bool.false_eq_true, if_false, one_mul]

theorem bits_two : Ideal.ofBits .f32 0x40000000#32 = ((2 : ℝ) : EReal) := by
  refine (ieee_pos 8 23 (0x40000000#32) 128 0 (by decide) (by decide) (by decide)).trans ?_
  norm_num

theorem bits_inf : Ideal.ofBits .f32 0x7F800000#32 = (⊤ : EReal) :=
  (ieee_pos 8 23 (0x7F800000#32) 255 0 (by decide) (by decide) (by decide)).trans (by norm_num)

theorem bits_half : Ideal.ofBits .f32 1056964608#32 = ((1 / 2 : ℝ) : EReal) := by
  refine (ieee_pos 8 23 (1056964608#32) 126 0 (by decide) (by decide) (by decide)).trans ?_
  norm_num

theorem bits_e6 : Ideal.ofBits .bf16 0x40C0#16 = ((6 : ℝ) : EReal) := by
  refine (ieee_pos 8 7 (0x40C0#16) 129 64 (by decide) (by decide) (by decide)).trans ?_
  norm_num

theorem bits_e4 : Ideal.ofBits .bf16 0x4080#16 = ((4 : ℝ) : EReal) := by
  refine (ieee_pos 8 7 (0x4080#16) 129 0 (by decide) (by decide) (by decide)).trans ?_
  norm_num

theorem bits_e3 : Ideal.ofBits .bf16 0x4040#16 = ((3 : ℝ) : EReal) := by
  refine (ieee_pos 8 7 (0x4040#16) 128 64 (by decide) (by decide) (by decide)).trans ?_
  norm_num

theorem bits_e2 : Ideal.ofBits .bf16 0x4000#16 = ((2 : ℝ) : EReal) := by
  refine (ieee_pos 8 7 (0x4000#16) 128 0 (by decide) (by decide) (by decide)).trans ?_
  norm_num

theorem bits_e1h : Ideal.ofBits .bf16 0x3FC0#16 = ((3 / 2 : ℝ) : EReal) := by
  refine (ieee_pos 8 7 (0x3FC0#16) 127 64 (by decide) (by decide) (by decide)).trans ?_
  norm_num

theorem bits_e1 : Ideal.ofBits .bf16 0x3F80#16 = ((1 : ℝ) : EReal) := by
  refine (ieee_pos 8 7 (0x3F80#16) 127 0 (by decide) (by decide) (by decide)).trans ?_
  norm_num

theorem bits_eh : Ideal.ofBits .bf16 0x3F00#16 = ((1 / 2 : ℝ) : EReal) := by
  refine (ieee_pos 8 7 (0x3F00#16) 126 0 (by decide) (by decide) (by decide)).trans ?_
  norm_num

theorem bits_e0 : Ideal.ofBits .bf16 0x0000#16 = ((0 : ℝ) : EReal) := by
  refine (ieee_pos 8 7 (0x0000#16) 0 0 (by decide) (by decide) (by decide)).trans ?_
  norm_num

/-! The scale. -/

/-- The scale's pattern: no sign, the byte for exponent, and no significand bits but at byte 0, where the top one is set. -/
theorem scale_sign : ∀ e : BitVec 8, ((BitVec.extractLsb' 0 16 (scaleWord e)).extractLsb' 15 1 == 1#1) = false := by decide +kernel
theorem scale_ex : ∀ e : BitVec 8, ((BitVec.extractLsb' 0 16 (scaleWord e)).extractLsb' 7 8).toNat = e.toNat := by decide +kernel
theorem scale_fr : ∀ e : BitVec 8, ((BitVec.extractLsb' 0 16 (scaleWord e)).extractLsb' 0 7).toNat = if e.toNat = 0 then 64 else 0 := by
  decide +kernel
theorem refExp_toInt : ∀ e : BitVec 8, (refExp e).toInt = (e.toNat : ℤ) - 127 := by decide +kernel
theorem refExp_big : ∀ e : BitVec 8, IntOp.cmpi CmpIPredicate.sgt (refExp e) 127#32 = if e.toNat = 255 then 1#1 else 0#1 := by
  decide +kernel

/-- Two to a whole power, as the reference's power computes it. -/
theorem pow_two_int (n : ℤ) : Ideal.pow ((2 : ℝ) : EReal) (((n : ℤ) : ℝ) : EReal) = (((2 : ℝ) ^ n : ℝ) : EReal) :=
  congrArg (fun r : ℝ => (r : EReal)) (Real.rpow_intCast 2 n)

theorem refScl_eq (e : BitVec 8) : refScl e = sclVal e := by
  have hs : (FloatOps.sitofp (F := Ideal) FTy.f32 (refExp e) : EReal) = ((((e.toNat : ℤ) - 127 : ℤ) : ℝ) : EReal) := by
    rw [← refExp_toInt]; rfl
  unfold refScl sclVal
  rw [refExp_big, bits_two, bits_inf, hs, pow_two_int]
  refine Eq.trans ?_ (ieee_pos 8 7 _ _ _ (scale_sign e) (scale_ex e) (scale_fr e)).symm
  by_cases h : e.toNat = 255
  · rw [h]; rfl
  · by_cases h0 : e.toNat = 0
    · rw [h0]
      show (((2 : ℝ) ^ (((0 : ℕ) : ℤ) - 127) : ℝ) : EReal) = (((((if (0 : ℕ) = 0 then 64 else 0 : ℕ) : ℝ)) * (2 : ℝ) ^ (1 - (2 ^ (8 - 1) - 1) - (7 : ℕ) : ℤ) : ℝ) : EReal)
      congr 1
      norm_num
    · simp only [if_neg h, if_neg h0]
      rw [if_neg (by norm_num; exact h)]
      show (((2 : ℝ) ^ ((e.toNat : ℤ) - 127) : ℝ) : EReal) = _
      congr 1
      have : ((e.toNat : ℤ) - 127) = 7 + ((e.toNat : ℤ) - (2 ^ (8 - 1) - 1) - (7 : ℕ)) := by norm_num
      rw [this, zpow_add₀ (by norm_num)]
      norm_num

/-! The code. -/

theorem nib_lt : ∀ (p : Fin 2) (b : BitVec 8), ∃ k : Fin 16, nib p b = BitVec.ofNat 32 k.val := by decide +kernel

/-- Twice the magnitude of a code, as the kernel's integer arithmetic has it. -/
def twice (v : BitVec 32) : BitVec 32 :=
  let e := IntOp.andi (IntOp.shrsi ArithUnit.vector v 1#32) 3#32
  IntOp.shli ArithUnit.vector
    (Scalar.select (IntOp.cmpi CmpIPredicate.sgt e 0#32) (IntOp.ori 2#32 (IntOp.andi v 1#32)) (IntOp.andi v 1#32))
    (IntOp.maxsi (IntOp.subi e 1#32) 0#32)

theorem nibVal_of (v : BitVec 32) (t : ℤ) (s : BitVec 1) (ht : (twice v).toInt = t) (hs : IntOp.cmpi CmpIPredicate.sge v 8#32 = s) :
    nibVal v = Scalar.select s (0 - ((t : ℝ) : EReal) * ((1 / 2 : ℝ) : EReal)) (((t : ℝ) : EReal) * ((1 / 2 : ℝ) : EReal)) := by
  subst ht hs
  rw [← bits_half]
  rfl

/-- The table's magnitude, from a code's three low bits. -/
def tabMag (b4 b2 b1 : BitVec 1) : EReal :=
  Scalar.select b4
    (Scalar.select b2 (Scalar.select b1 ((6 : ℝ) : EReal) ((4 : ℝ) : EReal)) (Scalar.select b1 ((3 : ℝ) : EReal) ((2 : ℝ) : EReal)))
    (Scalar.select b2 (Scalar.select b1 ((3 / 2 : ℝ) : EReal) ((1 : ℝ) : EReal)) (Scalar.select b1 ((1 / 2 : ℝ) : EReal) ((0 : ℝ) : EReal)))

theorem refNib_of (v : BitVec 32) (b8 b4 b2 b1 : BitVec 1) (h8 : refBit 8#32 v = b8) (h4 : refBit 4#32 v = b4) (h2 : refBit 2#32 v = b2)
    (h1 : refBit 1#32 v = b1) : refNib v = Scalar.select b8 (-tabMag b4 b2 b1) (tabMag b4 b2 b1) := by
  subst h8 h4 h2 h1
  unfold tabMag
  rw [← bits_e6, ← bits_e4, ← bits_e3, ← bits_e2, ← bits_e1h, ← bits_e1, ← bits_eh, ← bits_e0]
  rfl

theorem neg_half (t : ℤ) (r : ℝ) (h : (t : ℝ) * (1 / 2) = r) : -(r : EReal) = 0 - ((t : ℝ) : EReal) * ((1 / 2 : ℝ) : EReal) := by
  rw [← EReal.coe_mul, h, zero_sub]

theorem pos_half (t : ℤ) (r : ℝ) (h : (t : ℝ) * (1 / 2) = r) : (r : EReal) = ((t : ℝ) : EReal) * ((1 / 2 : ℝ) : EReal) := by
  rw [← EReal.coe_mul, h]

theorem refNib_code (k : Fin 16) : refNib (BitVec.ofNat 32 k.val) = nibVal (BitVec.ofNat 32 k.val) := by
  fin_cases k
  · rw [nibVal_of _ 0 0#1 (by decide) (by decide), refNib_of _ 0#1 0#1 0#1 0#1 (by decide) (by decide) (by decide) (by decide)]
    exact pos_half 0 (0) (by norm_num)
  · rw [nibVal_of _ 1 0#1 (by decide) (by decide), refNib_of _ 0#1 0#1 0#1 1#1 (by decide) (by decide) (by decide) (by decide)]
    exact pos_half 1 (1/2) (by norm_num)
  · rw [nibVal_of _ 2 0#1 (by decide) (by decide), refNib_of _ 0#1 0#1 1#1 0#1 (by decide) (by decide) (by decide) (by decide)]
    exact pos_half 2 (1) (by norm_num)
  · rw [nibVal_of _ 3 0#1 (by decide) (by decide), refNib_of _ 0#1 0#1 1#1 1#1 (by decide) (by decide) (by decide) (by decide)]
    exact pos_half 3 (3/2) (by norm_num)
  · rw [nibVal_of _ 4 0#1 (by decide) (by decide), refNib_of _ 0#1 1#1 0#1 0#1 (by decide) (by decide) (by decide) (by decide)]
    exact pos_half 4 (2) (by norm_num)
  · rw [nibVal_of _ 6 0#1 (by decide) (by decide), refNib_of _ 0#1 1#1 0#1 1#1 (by decide) (by decide) (by decide) (by decide)]
    exact pos_half 6 (3) (by norm_num)
  · rw [nibVal_of _ 8 0#1 (by decide) (by decide), refNib_of _ 0#1 1#1 1#1 0#1 (by decide) (by decide) (by decide) (by decide)]
    exact pos_half 8 (4) (by norm_num)
  · rw [nibVal_of _ 12 0#1 (by decide) (by decide), refNib_of _ 0#1 1#1 1#1 1#1 (by decide) (by decide) (by decide) (by decide)]
    exact pos_half 12 (6) (by norm_num)
  · rw [nibVal_of _ 0 1#1 (by decide) (by decide), refNib_of _ 1#1 0#1 0#1 0#1 (by decide) (by decide) (by decide) (by decide)]
    exact neg_half 0 (0) (by norm_num)
  · rw [nibVal_of _ 1 1#1 (by decide) (by decide), refNib_of _ 1#1 0#1 0#1 1#1 (by decide) (by decide) (by decide) (by decide)]
    exact neg_half 1 (1/2) (by norm_num)
  · rw [nibVal_of _ 2 1#1 (by decide) (by decide), refNib_of _ 1#1 0#1 1#1 0#1 (by decide) (by decide) (by decide) (by decide)]
    exact neg_half 2 (1) (by norm_num)
  · rw [nibVal_of _ 3 1#1 (by decide) (by decide), refNib_of _ 1#1 0#1 1#1 1#1 (by decide) (by decide) (by decide) (by decide)]
    exact neg_half 3 (3/2) (by norm_num)
  · rw [nibVal_of _ 4 1#1 (by decide) (by decide), refNib_of _ 1#1 1#1 0#1 0#1 (by decide) (by decide) (by decide) (by decide)]
    exact neg_half 4 (2) (by norm_num)
  · rw [nibVal_of _ 6 1#1 (by decide) (by decide), refNib_of _ 1#1 1#1 0#1 1#1 (by decide) (by decide) (by decide) (by decide)]
    exact neg_half 6 (3) (by norm_num)
  · rw [nibVal_of _ 8 1#1 (by decide) (by decide), refNib_of _ 1#1 1#1 1#1 0#1 (by decide) (by decide) (by decide) (by decide)]
    exact neg_half 8 (4) (by norm_num)
  · rw [nibVal_of _ 12 1#1 (by decide) (by decide), refNib_of _ 1#1 1#1 1#1 1#1 (by decide) (by decide) (by decide) (by decide)]
    exact neg_half 12 (6) (by norm_num)

/-- On the nibbles of a byte the table and the integer arithmetic agree. -/
theorem refNib_nib (p : Fin 2) (b : BitVec 8) : refNib (nib p b) = nibVal (nib p b) := by
  obtain ⟨k, hk⟩ := nib_lt p b
  rw [hk]
  exact refNib_code k

end Cert.KernelIdeal.Hand
-- ==== Proof.RefValue.lean ====
/-
  The reference's result, stage by stage at an index, and the whole of it equal to the product `outG` that the kernel computes: the
  reference sums over (nibble, byte), the kernel over columns, and column `2 b + p` is nibble `p` of byte `b`.
-/
module

public import proofs.«01_k».proof.Proof.RefScalars
public import proofs.«01_k».proof.Proof.Gen.ReferenceIdeal.Read

@[expose] public section

set_option maxRecDepth 16384

noncomputable section

namespace Cert.ReferenceIdeal.Hand

open Cert.ReferenceIdeal Cert.ReferenceIdeal.Gen Cert.ReferenceIdeal.Read
open Cert.KernelIdeal.Hand (nib nibVal sclVal refNib refMag refBit refScl refExp refNib_nib refScl_eq outG wv)
open Idealize.ShloMosaic Idealize.ShloMosaic.TcCoe

variable (X : S128x1x3840.Idx → EReal) (C : S28288x1920.Idx → BitVec 8) (S : S28288x120.Idx → BitVec 8)

/-- The unpacked codes: entry `(n, p, b)` is nibble `p` of code byte `(n, b)`. -/
theorem nibs_apply (n : Fin 28288) (p : Fin 2) (b : Fin 1920) :
    val_main_v19 (F := Ideal) C (ix3 n p b) = nib p (C (ix2 n b)) := by
  rcases p with ⟨p, hp⟩
  interval_cases p
  · pointwise [val_main_v19, val_main_v17, val_main_v14, val_main_v13, val_main_v12, val_main_c_2]
    rfl
  · pointwise [val_main_v19, val_main_v18, val_main_v16, val_main_v15, val_main_v12, val_main_c_3]
    rfl

/-- The decoded codes: the reference's table at the unpacked code. -/
theorem codes_apply (i : S28288x2x1920.Idx) :
    (val_main_v44 (F := Ideal) C i : EReal) = refNib (val_main_v19 (F := Ideal) C i) := by
  simp only [val_main_v44_apply, val_main_v43_apply, val_main_v42_apply, val_main_v41_apply, val_main_v40_apply, val_main_v39_apply,
    val_main_v38_apply, val_main_v37_apply, val_main_v36_apply, val_main_v35_apply, val_main_v34_apply, val_main_v33_apply,
    val_main_v32_apply, val_main_v31_apply, val_main_v30_apply, val_main_v29_apply, val_main_v28_apply, val_main_v27_apply,
    val_main_v26_apply, val_main_v25_apply, val_main_v24_apply, val_main_v23_apply, val_main_v22_apply, val_main_v21_apply,
    val_main_v20_apply, val_main_call5_v1_apply, val_main_call5_v0_apply, val_main_call4_v1_apply, val_main_call4_v0_apply,
    val_main_call2_v1_apply, val_main_call2_v0_apply, val_main_call1_v1_apply, val_main_call1_v0_apply, val_main_c_4_apply,
    val_main_c_5_apply, val_main_c_6_apply, val_main_c_7_apply, val_main_c_8_apply, val_main_c_9_apply, val_main_c_10_apply,
    val_main_c_11_apply, val_main_cst_12_apply, val_main_cst_13_apply, val_main_cst_14_apply, val_main_cst_15_apply,
    val_main_cst_16_apply, val_main_cst_17_apply, val_main_cst_18_apply, val_main_cst_19_apply]
  rfl

/-- The scales, one for each block of 32 columns. -/
theorem scale_apply (i : S28288x120.Idx) : (val_main_v9 (F := Ideal) S i : EReal) = refScl (S i) := by
  simp only [val_main_v9_apply, val_main_v8_apply, val_main_v7_apply, val_main_v6_apply, val_main_v5_apply, val_main_v4_apply,
    val_main_v3_apply, val_main_v2_apply, val_main_v1_apply, val_main_v0_apply, val_main_call0_v1_apply, val_main_call0_v0_apply,
    val_main_c_apply, val_main_c_0_apply, val_main_cst_apply, val_main_cst_1_apply]
  rfl

/-- The scales repeated along the bytes. -/
theorem scales_apply (n : Fin 28288) (p : Fin 2) (b : Fin 1920) :
    (val_main_v46 (F := Ideal) S (ix3 n p b) : EReal) = refScl (S (ix2 n ⟨b.val / 16, by omega⟩)) := by
  rw [← scale_apply, val_main_v46_apply, val_main_v45_apply, val_main_v11_apply, val_main_v10_apply]
  congr 1
  funext a
  apply Fin.ext
  fin_cases a
  · show (n.val * 1920 + b.val) / 1920 = n.val; omega
  · show (n.val * 1920 + b.val) / 16 % 120 = b.val / 16; omega

/-- A weight of the reference. -/
theorem weight_apply (n : Fin 28288) (p : Fin 2) (b : Fin 1920) :
    (val_main_v47 (F := Ideal) C S (ix3 n p b) : EReal)
      = nibVal (nib p (C (ix2 n b))) * sclVal (S (ix2 n ⟨b.val / 16, by omega⟩)) := by
  rw [val_main_v47_apply, ← refNib_nib, ← refScl_eq, ← nibs_apply, ← codes_apply, ← scales_apply S n p b]
  rfl

/-- The activations, split by nibble. -/
theorem acts_apply (i : Fin 128) (p : Fin 2) (b : Fin 1920) :
    (val_main_v49 (F := Ideal) X (ix3 i p b) : EReal) = X (ix3 i 0 ⟨b.val * 2 + p.val, by omega⟩) := by
  rw [val_main_v49_apply, val_main_v48_apply]
  congr 1
  funext a
  apply Fin.ext
  fin_cases a
  · show ((i.val * 1920 + b.val) * 2 + p.val) / 3840 = i.val; omega
  · rfl
  · show ((i.val * 1920 + b.val) * 2 + p.val) % 3840 = b.val * 2 + p.val; omega

/-- The contraction over (nibble, byte), as a double sum. -/
theorem dot_apply (A : S128x2x1920.Idx → EReal) (W : S28288x2x1920.Idx → EReal) (i : Fin 128) (n : Fin 28288) :
    (Host.dotGeneral (F := Ideal) (φ₁ := .bf16) (φ₂ := .bf16) dot_S128x2x1920_S28288x2x1920_S128x28288_12_12_0_0_n_n none A W
      : S128x28288.Idx → EReal) (ix2 i n) = ∑ p : Fin 2, ∑ b : Fin 1920, A (ix3 i p b) * W (ix3 n p b) := by
  pointwise

/-- The reference's result is the product. -/
theorem out_eq (A : Cert.KernelIdeal.S128x3840.Idx → EReal) (hA : ∀ (i : Fin 128) (k : Fin 3840), A (ix2 i k) = X (ix3 i 0 k)) :
    (val_main_v51 (F := Ideal) X C S : S128x28288.Idx → EReal) = outG A C S := by
  funext j
  idx_vars j
  have e : (val_main_v51 (F := Ideal) X C S (ix2 j0 j1) : EReal)
      = ∑ p : Fin 2, ∑ b : Fin 1920, X (ix3 j0 0 ⟨b.val * 2 + p.val, by omega⟩)
        * (nibVal (nib p (C (ix2 j1 b))) * sclVal (S (ix2 j1 ⟨b.val / 16, by omega⟩))) := by
    refine (dot_apply (val_main_v49 (F := Ideal) X) (val_main_v47 (F := Ideal) C S) j0 j1).trans ?_
    refine Finset.sum_congr rfl fun p _ => Finset.sum_congr rfl fun b _ => ?_
    rw [acts_apply, weight_apply]
  have g : outG A C S (ix2 j0 j1) = ∑ k : Fin 3840, A (ix2 j0 k) * wv C S j1 k := rfl
  refine e.trans (Eq.trans ?_ g.symm)
  rw [Fin.sum_univ_tiles 1920 2 rfl, Finset.sum_comm]
  refine Finset.sum_congr rfl fun b _ => Finset.sum_congr rfl fun p _ => ?_
  rw [hA]
  refine Ideal.mul_congr rfl ?_
  unfold wv
  have e1 : (⟨(b.val * 2 + p.val) % 2, by omega⟩ : Fin 2) = p := Fin.ext (by show (b.val * 2 + p.val) % 2 = p.val; omega)
  have e2 : (⟨(b.val * 2 + p.val) / 2, by omega⟩ : Fin 1920) = b := Fin.ext (by show (b.val * 2 + p.val) / 2 = b.val; omega)
  have e3 : (⟨(b.val * 2 + p.val) / 32, by omega⟩ : Fin 120) = ⟨b.val / 16, by omega⟩ :=
    Fin.ext (by show (b.val * 2 + p.val) / 32 = b.val / 16; omega)
  exact Ideal.mul_congr (congrArg nibVal (congrArg₂ nib e1.symm (congrArg (fun q => C (ix2 _ q)) e2.symm)))
    (congrArg sclVal (congrArg (fun q => S (ix2 _ q)) e3.symm))

end Cert.ReferenceIdeal.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.ValueRun
public import proofs.«01_k».proof.Proof.RefValue
public import Idealize.ShloMosaic.Lib.Bf16Pair
public import Idealize.ShloMosaic.Lib.Bf16PairInverse
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem Cert.Kernel

theorem frame_Kernel : Cert.quiescent_Kernel := fun m ρ _ => Cert.Kernel.Hand.run_main m ρ
theorem frame_KernelIdeal : Cert.quiescent_KernelIdeal := fun m ρ _ =>
  (θ_run Cert.KernelIdeal.defs _ _).mono (fun _ h => ⟨fun c => (h.1 c).2, h.2⟩) (Cert.KernelIdeal.Hand.run_value m ρ)
theorem frame_ReferenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run m ρ)

/-- The rewrites of the idealization, each closed by its rule's own proof. -/
theorem preserves : Cert.preserves_Kernel_KernelIdeal :=
  ⟨IdealRules.bf16_pair.bufferStatement _ _, IdealRules.bf16_pair.statement _ _, IdealRules.bf16_pair.statement _ _,
    IdealRules.bf16_pair.statement _ _, IdealRules.bf16_pair.statement _ _⟩

/-- The activations the kernel's region finds: the launched ones, the axis of extent one dropped. -/
theorem acts (m : (ℓ : Loc Cert.KernelIdeal.nD Cert.KernelIdeal.τ Cert.KernelIdeal.sig) → Buf (Elt Ideal) ℓ) (c : Dev Cert.KernelIdeal.nD)
    (i : Fin 128) (k : Fin 3840) :
    Cert.KernelIdeal.Hand.actsA m c (ix2 i k)
      = (m ((c.tc : Thread Cert.KernelIdeal.nD Cert.KernelIdeal.τ).loc Cert.KernelIdeal.main_arg0) : Cert.KernelIdeal.S128x1x3840.Idx → EReal)
        (ix3 i 0 k) := by
  have e : Cert.KernelIdeal.Hand.actsA m c = shapeCast Cert.KernelIdeal.S128x3840
      (m ((c.tc : Thread Cert.KernelIdeal.nD Cert.KernelIdeal.τ).loc Cert.KernelIdeal.main_arg0) : Cert.KernelIdeal.S128x1x3840.Idx → EReal)
      Cert.KernelIdeal.Facts₀.shapeCasts_S128x1x3840_S128x3840 := rfl
  rw [e]
  pointwise

/-- The kernel and the reference end with the same result: the product `outA`. -/
theorem algebraic : Cert.algebraic_KernelIdeal_ReferenceIdeal := fun m ρ m' ρ' _ hm =>
  ⟨fun c => Cert.KernelIdeal.Hand.outA m c,
    (θ_run Cert.KernelIdeal.defs _ _).mono (fun _ h => h.1) (Cert.KernelIdeal.Hand.run_value m ρ),
    (θ_run Cert.ReferenceIdeal.defs _ _).mono (fun r h c => ⟨(h c).1.trans (by
        rw [Cert.ReferenceIdeal.Read.val_main_v51_eq, (hm c).1, (hm c).2.1, (hm c).2.2]
        refine (Cert.ReferenceIdeal.Hand.out_eq _ _ _ (Cert.KernelIdeal.Hand.actsA m c) (acts m c)).trans ?_
        unfold Cert.KernelIdeal.Hand.outA Cert.KernelIdeal.Hand.codesA Cert.KernelIdeal.Hand.scalesA
        beta_reduce
        rw [Cert.KernelIdeal.Gen.V_main_arg1, Cert.KernelIdeal.Gen.V_main_arg2]), (h c).2⟩)
      (Cert.ReferenceIdeal.Value.run m' ρ')⟩

theorem claim : Cert.Claim := ⟨Cert.Kernel.Gen.facts, Cert.KernelIdeal.Gen.facts, Cert.ReferenceIdeal.Gen.facts,
  frame_Kernel, frame_KernelIdeal, frame_ReferenceIdeal, preserves, algebraic⟩

end Cert.Proof

end
